-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_made_inputs [hPre_made_inputs : Cert.Pre_made_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_made_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_made_inputs [hPre_made_inputs : Cert.Pre_made_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_made_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_made_inputs [hKernelIdeal : Cert.KernelIdeal.Facts] [hPre_made_inputs : Cert.Pre_made_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_made_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_made_inputs [hReferenceIdeal : Cert.ReferenceIdeal.Facts] [hPre_made_inputs : Cert.Pre_made_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_made_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "logV" .f32 0x409B43D5#32 ((Real.log 128 : ℝ) : EReal)

def algebraic_KernelIdeal_ReferenceIdeal_pre_made_inputs [hKernelIdeal : Cert.KernelIdeal.Facts] [hReferenceIdeal : Cert.ReferenceIdeal.Facts] [hPre_made_inputs : Cert.Pre_made_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_made_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_made_inputs : Cert.Pre_made_inputs.Facts),
    quiescent_Kernel (hKernel := hKernel)
    ∧ quiescent_KernelIdeal (hKernelIdeal := hKernelIdeal)
    ∧ quiescent_KernelIdeal_pre_made_inputs (hKernelIdeal := hKernelIdeal) (hPre_made_inputs := hPre_made_inputs)
    ∧ quiescent_ReferenceIdeal (hReferenceIdeal := hReferenceIdeal)
    ∧ quiescent_ReferenceIdeal_pre_made_inputs (hReferenceIdeal := hReferenceIdeal) (hPre_made_inputs := hPre_made_inputs)
    ∧ preserves_Kernel_KernelIdeal
    ∧ algebraic_KernelIdeal_ReferenceIdeal_pre_made_inputs (hKernelIdeal := hKernelIdeal) (hReferenceIdeal := hReferenceIdeal) (hPre_made_inputs := hPre_made_inputs)
-- ==== Pre_made_inputs.lean ====
abbrev S16384x16 : Shape := ⟨2, ![16384, 16]⟩
abbrev S1920x256 : Shape := ⟨2, ![1920, 256]⟩
abbrev S256 : Shape := ⟨1, ![256]⟩
abbrev S256x2048 : Shape := ⟨2, ![256, 2048]⟩
abbrev S2048 : Shape := ⟨1, ![2048]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel
  bcast_S_S1920x256 : S_.BroadcastsInDim S1920x256 (![] : Fin 0 → Fin S1920x256.rank)
  reducesTo_S1920x256_S_d0_1 : S1920x256.ReducesTo [0, 1] S_
  bcast_S_S256 : S_.BroadcastsInDim S256 (![] : Fin 0 → Fin S256.rank)
  reducesTo_S256_S_d0 : S256.ReducesTo [0] S_
  bcast_S_S256x2048 : S_.BroadcastsInDim S256x2048 (![] : Fin 0 → Fin S256x2048.rank)
  reducesTo_S256x2048_S_d0_1 : S256x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v5 : IVec S_ 1) (main_v12 : IVec S_ 1) (main_v14 : IVec S256x2048 1) (main_c_6 : IVec S_ 1) : IVec S_ 1 :=
  let main_v15 : IVec S_ 1 := (fun x v => Host.reduce IntOp.andi x v reducesTo_S256x2048_S_d0_1 h_S_) main_v14 main_c_6
  let main_v16 : IVec S_ 1 := andi main_v12 main_v15
  let main_v17 : IVec S_ 1 := andi main_v5 main_v16
  let main_cst_7 : FVec F S_ .f32 := constant S_ .f32 0x00000000#32
  let main_v18 : FVec F S2048 .f32 := broadcastInDim S2048 ![] bcast_S_S2048 main_cst_7
  let main_v19 : IVec S2048 1 := cmpf .oeq main_arg4 main_v18
  let main_c_8 : IVec S_ 1 := constantI S_ 1 1#1
  let main_v20 : IVec S_ 1 := (fun x v => Host.reduce IntOp.andi x v reducesTo_S2048_S_d0 h_S_) main_v19 main_c_8
  let main_v21 : IVec S_ 1 := andi main_v17 main_v20
  main_v21

def fn {F : FTy → Type} [FloatOps F] (main_arg0 : IVec S16384x16 32) (main_arg1 : FVec F S1920x256 .f32) (main_arg2 : FVec F S256 .f32) (main_arg3 : FVec F S256x2048 .f32) (main_arg4 : FVec F S2048 .f32) : IVec S_ 1 :=
  let main_c : IVec S_ 32 := constantI S_ 32 0#32
  let main_v0 : IVec S16384x16 32 := broadcastInDim S16384x16 ![] bcast_S_S16384x16 main_c
  let main_v1 : IVec S16384x16 1 := cmpi .sge main_arg0 main_v0
  let main_c_0 : IVec S_ 32 := constantI S_ 32 128#32
  let main_v2 : IVec S16384x16 32 := broadcastInDim S16384x16 ![] bcast_S_S16384x16 main_c_0
  let main_v3 : IVec S16384x16 1 := cmpi .slt main_arg0 main_v2
  let main_v4 : IVec S16384x16 1 := andi main_v1 main_v3
  let main_c_1 : IVec S_ 1 := constantI S_ 1 1#1
  let main_v5 : IVec S_ 1 := (fun x v => Host.reduce IntOp.andi x v reducesTo_S16384x16_S_d0_1 h_S_) main_v4 main_c_1
  let main_cst : FVec F S_ .f32 := constant S_ .f32 0x7F800000#32
  let main_v6 : FVec F S1920x256 .f32 := broadcastInDim S1920x256 ![] bcast_S_S1920x256 main_cst
  let main_v7 : IVec S1920x256 1 := cmpf .olt main_arg1 main_v6
  let main_c_2 : IVec S_ 1 := constantI S_ 1 1#1
  let main_v8 : IVec S_ 1 := (fun x v => Host.reduce IntOp.andi x v reducesTo_S1920x256_S_d0_1 h_S_) main_v7 main_c_2
  let main_cst_3 : FVec F S_ .f32 := constant S_ .f32 0x7F800000#32
  let main_v9 : FVec F S256 .f32 := broadcastInDim S256 ![] bcast_S_S256 main_cst_3
  let main_v10 : IVec S256 1 := cmpf .olt main_arg2 main_v9
  let main_c_4 : IVec S_ 1 := constantI S_ 1 1#1
  let main_v11 : IVec S_ 1 := (fun x v => Host.reduce IntOp.andi x v reducesTo_S256_S_d0 h_S_) main_v10 main_c_4
  let main_v12 : IVec S_ 1 := andi main_v8 main_v11
  let main_cst_5 : FVec F S_ .f32 := constant S_ .f32 0xFF800000#32
  let main_v13 : FVec F S256x2048 .f32 := broadcastInDim S256x2048 ![] bcast_S_S256x2048 main_cst_5
  let main_v14 : IVec S256x2048 1 := cmpf .ogt main_arg3 main_v13
  let main_c_6 : IVec S_ 1 := constantI S_ 1 1#1
  fn_part1 (F := F) main_arg4 main_v5 main_v12 main_v14 main_c_6
-- ==== Kernel.lean ====
abbrev S16384x16 : Shape := ⟨2, ![16384, 16]⟩
abbrev S1920x256 : Shape := ⟨2, ![1920, 256]⟩
abbrev S256 : Shape := ⟨1, ![256]⟩
abbrev S256x2048 : Shape := ⟨2, ![256, 2048]⟩
abbrev S2048 : Shape := ⟨1, ![2048]⟩
abbrev S16x16384 : Shape := ⟨2, ![16, 16384]⟩
abbrev S256x1920 : Shape := ⟨2, ![256, 1920]⟩
abbrev S256x1 : Shape := ⟨2, ![256, 1]⟩
abbrev S2048x256 : Shape := ⟨2, ![2048, 256]⟩
abbrev S16384 : Shape := ⟨1, ![16384]⟩
abbrev S16x4096 : Shape := ⟨2, ![16, 4096]⟩
abbrev S4096 : Shape := ⟨1, ![4096]⟩
abbrev S256x128 : Shape := ⟨2, ![256, 128]⟩
abbrev S128x4096 : Shape := ⟨2, ![128, 4096]⟩
abbrev S1x4096 : Shape := ⟨2, ![1, 4096]⟩
abbrev S2048x4096 : Shape := ⟨2, ![2048, 4096]⟩
abbrev S256x4096 : Shape := ⟨2, ![256, 4096]⟩
abbrev S1920x4096 : Shape := ⟨2, ![1920, 4096]⟩

abbrev nBuf : Space → Nat
  | .hbm => 10
  | .vmem => 9
  | .smem => 0
  | _ => 0

abbrev bufTy : (tb : Table) → Fin (tcTables nBuf tb) → BufTy
  | .hbm, ⟨0, _⟩ => ⟨S16384x16, .i32⟩
  | .hbm, ⟨1, _⟩ => ⟨S1920x256, .f32⟩
  | .hbm, ⟨2, _⟩ => ⟨S256, .f32⟩
  | .hbm, ⟨3, _⟩ => ⟨S256x2048, .f32⟩
  | .hbm, ⟨4, _⟩ => ⟨S2048, .f32⟩
  | .hbm, ⟨5, _⟩ => ⟨S16x16384, .i32⟩
  | .hbm, ⟨6, _⟩ => ⟨S256x1920, .f32⟩
  | .hbm, ⟨7, _⟩ => ⟨S256x1, .f32⟩
  | .hbm, ⟨8, _⟩ => ⟨S2048x256, .f32⟩
  | .hbm, ⟨9, _⟩ => ⟨S16384, .f32⟩
  | .local _ .vmem, ⟨0, _⟩ => ⟨S16x4096, .i32⟩
  | .local _ .vmem, ⟨1, _⟩ => ⟨S16x4096, .i32⟩
  | .local _ .vmem, ⟨2, _⟩ => ⟨S256x1920, .f32⟩
  | .local _ .vmem, ⟨3, _⟩ => ⟨S256x1, .f32⟩
  | .local _ .vmem, ⟨4, _⟩ => ⟨S2048x256, .f32⟩
  | .local _ .vmem, ⟨5, _⟩ => ⟨S4096, .f32⟩
  | .local _ .vmem, ⟨6, _⟩ => ⟨S4096, .f32⟩
  | .local _ .vmem, ⟨7, _⟩ => ⟨S256x2048, .bf16⟩
  | .local _ .vmem, ⟨8, _⟩ => ⟨S1920x256, .bf16⟩
  | _, _ => ⟨S16384x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S16x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1920 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "logV" => some ((Real.log 128 : ℝ) : EReal)
  | _ => none
-- ==== ReferenceIdeal.lean ====
abbrev S16384x16 : Shape := ⟨2, ![16384, 16]⟩
abbrev S1920x256 : Shape := ⟨2, ![1920, 256]⟩
abbrev S256 : Shape := ⟨1, ![256]⟩
abbrev S256x2048 : Shape := ⟨2, ![256, 2048]⟩
abbrev S2048 : Shape := ⟨1, ![2048]⟩
abbrev S15 : Shape := ⟨1, ![15]⟩
abbrev S_ : Shape := ⟨0, ![]⟩
abbrev S15x128 : Shape := ⟨2, ![15, 128]⟩
abbrev S1920 : Shape := ⟨1, ![1920]⟩
abbrev S16 : Shape := ⟨1, ![16]⟩
abbrev S16x128 : Shape := ⟨2, ![16, 128]⟩
abbrev S1920x1 : Shape := ⟨2, ![1920, 1]⟩
abbrev S1x256 : Shape := ⟨2, ![1, 256]⟩
abbrev S256x1 : Shape := ⟨2, ![256, 1]⟩
abbrev S1x2048 : Shape := ⟨2, ![1, 2048]⟩
abbrev S16384x16x1 : Shape := ⟨3, ![16384, 16, 1]⟩
abbrev S1x1x128 : Shape := ⟨3, ![1, 1, 128]⟩
abbrev S16384x16x128 : Shape := ⟨3, ![16384, 16, 128]⟩
abbrev S16384x2048 : Shape := ⟨2, ![16384, 2048]⟩
abbrev S16384x1920 : Shape := ⟨2, ![16384, 1920]⟩
abbrev S16384x256 : Shape := ⟨2, ![16384, 256]⟩
abbrev S2048x1 : Shape := ⟨2, ![2048, 1]⟩
abbrev S16384x1 : Shape := ⟨2, ![16384, 1]⟩
abbrev S16384 : Shape := ⟨1, ![16384]⟩

abbrev nBuf : Space → Nat
  | .hbm => 149
  | .vmem => 0
  | .smem => 0
  | _ => 0

abbrev hbmTy0_0 (i : Nat) : BufTy := match i % 128 with
  | 0 => ⟨S16384x16, .i32⟩
  | 1 => ⟨S1920x256, .f32⟩
  | 2 => ⟨S256, .f32⟩
  | 3 => ⟨S256x2048, .f32⟩
  | 4 => ⟨S2048, .f32⟩
  | 5 => ⟨S15, .i32⟩
  | 6 => ⟨S_, .i32⟩
  | 7 => ⟨S15, .i32⟩
  | 8 => ⟨S15, .i32⟩
  | 9 => ⟨S15x128, .i32⟩
  | 10 => ⟨S1920, .i32⟩
  | 11 => ⟨S256, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S256, .i32⟩
  | 19 => ⟨S256, .i32⟩
  | 20 => ⟨S_, .i32⟩
  | 21 => ⟨S256, .i32⟩
  | 22 => ⟨S256, .i1⟩
  | 23 => ⟨S_, .i32⟩
  | 24 => ⟨S256, .i32⟩
  | 25 => ⟨S256, .i1⟩
  | 26 => ⟨S_, .i32⟩
  | 27 => ⟨S_, .i1⟩
  | 28 => ⟨S256, .i1⟩
  | 29 => ⟨S256, .i1⟩
  | 30 => ⟨S256, .i1⟩
  | 31 => ⟨S256, .i32⟩
  | 32 => ⟨S256, .i32⟩
  | 33 => ⟨S256, .i32⟩
  | 34 => ⟨S_, .i32⟩
  | 35 => ⟨S256, .i32⟩
  | 36 => ⟨S256, .i32⟩
  | 37 => ⟨S16, .i32⟩
  | 38 => ⟨S16x128, .i32⟩
  | 39 => ⟨S2048, .i32⟩
  | 40 => ⟨S1920x1, .i32⟩
  | 41 => ⟨S1x256, .i32⟩
  | 42 => ⟨S1920x256, .i32⟩
  | 43 => ⟨S1920x256, .i32⟩
  | 44 => ⟨S1920x256, .i1⟩
  | 45 => ⟨S1920x256, .f32⟩
  | 46 => ⟨S256x1, .i32⟩
  | 47 => ⟨S1x2048, .i32⟩
  | 48 => ⟨S256x2048, .i32⟩
  | 49 => ⟨S256x2048, .i32⟩
  | 50 => ⟨S256x2048, .i1⟩
  | 51 => ⟨S256x2048, .f32⟩
  | 52 => ⟨S16, .i32⟩
  | 53 => ⟨S16x128, .i32⟩
  | 54 => ⟨S2048, .i32⟩
  | 55 => ⟨S16384x16x1, .i32⟩
  | 56 => ⟨S1x1x128, .i32⟩
  | 57 => ⟨S16384x16x128, .i32⟩
  | 58 => ⟨S16384x16x128, .i32⟩
  | 59 => ⟨S16384x16x128, .i1⟩
  | 60 => ⟨S16384x16x128, .f32⟩
  | 61 => ⟨S16384x2048, .f32⟩
  | 62 => ⟨S16384x1920, .f32⟩
  | 63 => ⟨S1920x256, .f32⟩
  | 64 => ⟨S16384x256, .f32⟩
  | 65 => ⟨S1x256, .f32⟩
  | 66 => ⟨S16384x256, .f32⟩
  | 67 => ⟨S16384x256, .f32⟩
  | 68 => ⟨S_, .f32⟩
  | 69 => ⟨S16384x256, .f32⟩
  | 70 => ⟨S16384x256, .f32⟩
  | 71 => ⟨S256x2048, .f32⟩
  | 72 => ⟨S16384x2048, .f32⟩
  | 73 => ⟨S1x2048, .f32⟩
  | 74 => ⟨S16384x2048, .f32⟩
  | 75 => ⟨S16384x2048, .f32⟩
  | 76 => ⟨S16384x2048, .f32⟩
  | 77 => ⟨S_, .f32⟩
  | 78 => ⟨S16384x16, .f32⟩
  | 79 => ⟨S_, .i32⟩
  | 80 => ⟨S2048, .i32⟩
  | 81 => ⟨S2048, .i1⟩
  | 82 => ⟨S_, .i32⟩
  | 83 => ⟨S2048, .i32⟩
  | 84 => ⟨S2048, .i32⟩
  | 85 => ⟨S2048, .i32⟩
  | 86 => ⟨S2048x1, .i32⟩
  | 87 => ⟨S16384x16, .f32⟩
  | 88 => ⟨S_, .f32⟩
  | 89 => ⟨S16384x16, .f32⟩
  | 90 => ⟨S16384x2048, .f32⟩
  | 91 => ⟨S_, .i32⟩
  | 92 => ⟨S2048, .i32⟩
  | 93 => ⟨S2048, .i1⟩
  | 94 => ⟨S_, .i32⟩
  | 95 => ⟨S2048, .i32⟩
  | 96 => ⟨S2048, .i32⟩
  | 97 => ⟨S2048, .i32⟩
  | 98 => ⟨S2048x1, .i32⟩
  | 99 => ⟨S16384x16, .f32⟩
  | 100 => ⟨S16384x16, .f32⟩
  | 101 => ⟨S16384x1, .f32⟩
  | 102 => ⟨S16384, .f32⟩
  | 103 => ⟨S16384x1, .f32⟩
  | 104 => ⟨S16384, .f32⟩
  | 105 => ⟨S16384, .f32⟩
  | 106 => ⟨S16384x1, .f32⟩
  | 107 => ⟨S16384, .f32⟩
  | 108 => ⟨S16384, .f32⟩
  | 109 => ⟨S16384x1, .f32⟩
  | 110 => ⟨S16384, .f32⟩
  | 111 => ⟨S16384, .f32⟩
  | 112 => ⟨S16384x1, .f32⟩
  | 113 => ⟨S16384, .f32⟩
  | 114 => ⟨S16384, .f32⟩
  | 115 => ⟨S16384x1, .f32⟩
  | 116 => ⟨S16384, .f32⟩
  | 117 => ⟨S16384, .f32⟩
  | 118 => ⟨S16384x1, .f32⟩
  | 119 => ⟨S16384, .f32⟩
  | 120 => ⟨S16384, .f32⟩
  | 121 => ⟨S16384x1, .f32⟩
  | 122 => ⟨S16384, .f32⟩
  | 123 => ⟨S16384, .f32⟩
  | 124 => ⟨S16384x1, .f32⟩
  | 125 => ⟨S16384, .f32⟩
  | 126 => ⟨S16384, .f32⟩
  | 127 => ⟨S16384x1, .f32⟩
  | _ => ⟨S16384x16, .i32⟩

abbrev hbmTy0_1 (i : Nat) : BufTy := match i % 128 with
  | 0 => ⟨S16384, .f32⟩
  | 1 => ⟨S16384, .f32⟩
  | 2 => ⟨S16384x1, .f32⟩
  | 3 => ⟨S16384, .f32⟩
  | 4 => ⟨S16384, .f32⟩
  | 5 => ⟨S16384x1, .f32⟩
  | 6 => ⟨S16384, .f32⟩
  | 7 => ⟨S16384, .f32⟩
  | 8 => ⟨S16384x1, .f32⟩
  | 9 => ⟨S16384, .f32⟩
  | 10 => ⟨S16384, .f32⟩
  | 11 => ⟨S16384x1, .f32⟩
  | 12 => ⟨S16384, .f32⟩
  | 13 => ⟨S16384, .f32⟩
  | 14 => ⟨S16384x1, .f32⟩
  | 15 => ⟨S16384, .f32⟩
  | 16 => ⟨S16384, .f32⟩
  | 17 => ⟨S16384x1, .f32⟩
  | 18 => ⟨S16384, .f32⟩
  | 19 => ⟨S16384, .f32⟩
  | 20 => ⟨S16384, .f32⟩
  | _ => ⟨S16384x16, .i32⟩

abbrev hbmTy (i : Nat) : BufTy := match i / 128 with
  | 0 => hbmTy0_0 i
  | 1 => hbmTy0_1 i
  | _ => ⟨S16384x16, .i32⟩

abbrev bufTy : (tb : Table) → Fin (tcTables nBuf tb) → BufTy
  | .hbm, ⟨i, _⟩ => hbmTy i
  | _, _ => ⟨S16384x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v6 : Ref sig .tc := ⟨.hbm, 33, rfl⟩
abbrev main_c_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_call2_cst : Ref sig .tc := ⟨.hbm, 68, rfl⟩
abbrev main_call2_v0 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_cst : Ref sig .tc := ⟨.hbm, 77, rfl⟩
abbrev main_v42 : Ref sig .tc := ⟨.hbm, 78, rfl⟩
abbrev main_c_2 : Ref sig .tc := ⟨.hbm, 79, rfl⟩
abbrev main_v43 : Ref sig .tc := ⟨.hbm, 80, rfl⟩
abbrev main_v44 : Ref sig .tc := ⟨.hbm, 81, rfl⟩
abbrev main_c_3 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_4 : Ref sig .tc := ⟨.hbm, 88, rfl⟩
abbrev main_v50 : Ref sig .tc := ⟨.hbm, 89, rfl⟩
abbrev main_v51 : Ref sig .tc := ⟨.hbm, 90, rfl⟩
abbrev main_c_5 : Ref sig .tc := ⟨.hbm, 91, rfl⟩
abbrev main_v52 : Ref sig .tc := ⟨.hbm, 92, rfl⟩
abbrev main_v53 : Ref sig .tc := ⟨.hbm, 93, rfl⟩
abbrev main_c_6 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩

abbrev nD : Nat := 1
abbrev τ : Topo := Topo.v7x

variable {F : FTy → Type} [FloatOps F]
-- ==== Proof.Made.Step.lean ====
/-
What one grid point leaves behind, in the kernel's own operations.

The first point fills the two scratch arrays (the masked weights); every point then computes its 4096
results from its slice of the class indices and the two scratch arrays.  The generated run lists the
stores; here they are read back as values.
-/
module

public import proofs.«01_k».proof.Proof.Gen.KernelIdeal.Value
public import Idealize.ShloMosaic.Lib.Tactic

@[expose] public section

set_option maxRecDepth 16384

noncomputable section

open Idealize.ShloMosaic Idealize.ShloMosaic.TcCoe Idealize.SL.Sem

namespace Cert.KernelIdeal.Made

open Cert.KernelIdeal Cert.KernelIdeal.Gen

variable {F : FTy → Type} [FloatOps F]

/-- The zero offsets of a two-axis access. -/
theorem offsets2 : (![0, 0] : Fin 2 → Nat) = fun _ => 0 := funext fun a => by fin_cases a <;> rfl

/-- The zero offset of a one-axis access. -/
theorem offsets1 : (![0] : Fin 1 → Nat) = fun _ => 0 := funext fun a => by fin_cases a <;> rfl

/-- The first scratch array: the masked first weights, and the hidden biases repeated over 128 columns. -/
def hiddenWeights (x1 : Vec F S256x1920 .f32) (x2 : Vec F S256x1 .f32) : FVec F S256x2048 .bf16 :=
  k0_pay4 k0_pay2 (k0_pay3 x1) x2

/-- The 1920 × 4096 logits of one block in base two, blocks 1 to 15 stacked, from the class indices and
    the two scratch arrays. -/
def scaledLogits (x0 : Vec F S16x4096 .i32) (xs0 : Vec F S256x2048 .bf16) (xs1 : Vec F S1920x256 .bf16) :
    FVec F S1920x4096 .f32 :=
  k0_pay31 (k0_pay10 x0) k0_pay11 (k0_pay12 x0) (k0_pay13 x0) (k0_pay14 x0) (k0_pay15 x0) (k0_pay16 x0)
    (k0_pay18 k0_pay11 (k0_pay17 x0)) (k0_pay19 (k0_pay10 x0) k0_pay11) (k0_pay20 (k0_pay10 x0) k0_pay11)
    (k0_pay21 (k0_pay10 x0) k0_pay11) (k0_pay22 (k0_pay10 x0) k0_pay11) (k0_pay23 (k0_pay10 x0) k0_pay11)
    (k0_pay24 (k0_pay10 x0) k0_pay11) (Scalar.ofBits .bf16 0x0000#16) k0_pay25 xs0 xs1

/-- The elementwise product of the first 128 rows of `y` with the one-hot rows of class 1. -/
def firstPick (x0 : Vec F S16x4096 .i32) (y : FVec F S1920x4096 .f32) : FVec F S128x4096 .f32 :=
  mulf (extractStridedSlice S128x4096 ![0, 0] y slices_S1920x4096_o0_0_S128x4096)
    (extf .f32 (k0_pay13 x0) bitsLt_bf16_f32)

variable [Named F]

/-- The second scratch array: the masked second weights of blocks 1 to 15, times `1 / ln 2`. -/
def logitWeights (x3 : Vec F S2048x256 .f32) : FVec F S1920x256 .bf16 :=
  k0_pay9 k0_pay5 k0_pay6 128#32 k0_pay7 k0_pay8
    (View.ld x3 (Rect.unit ![128, 0] S1920x256.size inb_S2048x256_S1920x256_128_0))

/-- The 4096 results of one block, from the class indices and the two scratch arrays. -/
def blockValue (x0 : Vec F S16x4096 .i32) (xs0 : Vec F S256x2048 .bf16) (xs1 : Vec F S1920x256 .bf16) :
    FVec F S4096 .f32 :=
  k0_pay1 (k0_pay44 (k0_pay23 (k0_pay10 x0) k0_pay11)
      (k0_pay26 (k0_pay24 (k0_pay10 x0) k0_pay11) (Scalar.ofBits .bf16 0x0000#16) k0_pay25)
      (k0_pay27 (k0_pay10 x0) k0_pay11) (k0_pay28 (k0_pay10 x0) k0_pay11)
      (k0_pay29 (k0_pay10 x0) k0_pay11) (k0_pay30 (k0_pay10 x0) k0_pay11) (scaledLogits x0 xs0 xs1)
      (k0_pay41 (scaledLogits x0 xs0 xs1) (k0_pay33 (k0_pay10 x0) k0_pay11 (k0_pay12 x0) (k0_pay13 x0) (k0_pay14 x0)
        (k0_pay15 x0) (k0_pay16 x0) (k0_pay18 k0_pay11 (k0_pay17 x0)) (k0_pay19 (k0_pay10 x0) k0_pay11)
        (k0_pay20 (k0_pay10 x0) k0_pay11) (k0_pay21 (k0_pay10 x0) k0_pay11) (k0_pay22 (k0_pay10 x0) k0_pay11)
        (k0_pay23 (k0_pay10 x0) k0_pay11) (k0_pay24 (k0_pay10 x0) k0_pay11) (Scalar.ofBits .bf16 0x0000#16) k0_pay25
        xs0 xs1))
      (k0_pay42 (scaledLogits x0 xs0 xs1))
      (k0_pay43 (k0_pay14 x0) (k0_pay15 x0) (k0_pay16 x0) (k0_pay18 k0_pay11 (k0_pay17 x0))
        (k0_pay19 (k0_pay10 x0) k0_pay11) (k0_pay20 (k0_pay10 x0) k0_pay11) (k0_pay21 (k0_pay10 x0) k0_pay11)
        (k0_pay22 (k0_pay10 x0) k0_pay11) (scaledLogits x0 xs0 xs1) (firstPick x0 (scaledLogits x0 xs0 xs1))))
    (Named.named κ "ln2" 0x3F317218#32)

/-- At a later point the results are `blockValue` of the point's class indices and the scratch arrays it
    finds. -/
theorem out_later (c : Dev nD) (i : grid0.Coords)
    (arg1 : Memref sig .tc .vmem S16x4096 .i32) (harg1 : arg1.IsWhole)
    (arg2 : Memref sig .tc .vmem S256x1920 .f32) (harg2 : arg2.IsWhole)
    (arg3 : Memref sig .tc .vmem S256x1 .f32) (harg3 : arg3.IsWhole)
    (arg4 : Memref sig .tc .vmem S2048x256 .f32) (harg4 : arg4.IsWhole)
    (arg5 : Memref sig .tc .vmem S4096 .f32) (harg5 : arg5.IsWhole)
    (arg6 : Memref sig .tc .vmem S256x2048 .bf16) (harg6 : arg6.IsWhole)
    (arg7 : Memref sig .tc .vmem S1920x256 .bf16) (harg7 : arg7.IsWhole)
    (hc0 : ¬cond0_0 i)
    (x0 : Vec F S16x4096 .i32) (x1 : Vec F S256x1920 .f32) (x2 : Vec F S256x1 .f32) (x3 : Vec F S2048x256 .f32)
    (xs0 : Vec F S256x2048 .bf16) (xs1 : Vec F S1920x256 .bf16) :
    out0_B_4 c i arg1 harg1 arg2 harg2 arg3 harg3 arg4 harg4 arg5 harg5 arg6 harg6 arg7 harg7 hc0 x0 x1 x2 x3 xs0 xs1
      = blockValue x0 xs0 xs1 := by
  unfold out0_B_4
  rw [View.read_writes_eq_canon _ _ _ (cover0_B_4 c i arg1 harg1 arg2 harg2 arg3 harg3 arg4 harg4 arg5 harg5 arg6 harg6 arg7 harg7 hc0 x0 x1 x2 x3 xs0 xs1)]
  unfold kernelRun0_B
  dsimp only
  sl_unfold_words
  rw [View.canon_unit_zero offsets1]
  simp only [View.readAt_eq_ld, harg1.read_unread, harg6.read_unread, harg7.read_unread,
    View.ld_unit_zero (S := S16x4096) offsets2, View.ld_unit_zero (S := S256x2048) offsets2,
    View.ld_unit_zero (S := S1920x256) offsets2]
  rfl

/-- A later point leaves the first scratch array as it finds it. -/
theorem hidden_later (c : Dev nD) (i : grid0.Coords)
    (arg1 : Memref sig .tc .vmem S16x4096 .i32) (harg1 : arg1.IsWhole)
    (arg2 : Memref sig .tc .vmem S256x1920 .f32) (harg2 : arg2.IsWhole)
    (arg3 : Memref sig .tc .vmem S256x1 .f32) (harg3 : arg3.IsWhole)
    (arg4 : Memref sig .tc .vmem S2048x256 .f32) (harg4 : arg4.IsWhole)
    (arg5 : Memref sig .tc .vmem S4096 .f32) (harg5 : arg5.IsWhole)
    (arg6 : Memref sig .tc .vmem S256x2048 .bf16) (harg6 : arg6.IsWhole)
    (arg7 : Memref sig .tc .vmem S1920x256 .bf16) (harg7 : arg7.IsWhole)
    (hc0 : ¬cond0_0 i)
    (x0 : Vec F S16x4096 .i32) (x1 : Vec F S256x1920 .f32) (x2 : Vec F S256x1 .f32) (x3 : Vec F S2048x256 .f32)
    (xs0 : Vec F S256x2048 .bf16) (xs1 : Vec F S1920x256 .bf16) :
    sout0_B_0 c i arg1 harg1 arg2 harg2 arg3 harg3 arg4 harg4 arg5 harg5 arg6 harg6 arg7 harg7 hc0 x0 x1 x2 x3 xs0 xs1 = xs0 := rfl

/-- A later point leaves the second scratch array as it finds it. -/
theorem logit_later (c : Dev nD) (i : grid0.Coords)
    (arg1 : Memref sig .tc .vmem S16x4096 .i32) (harg1 : arg1.IsWhole)
    (arg2 : Memref sig .tc .vmem S256x1920 .f32) (harg2 : arg2.IsWhole)
    (arg3 : Memref sig .tc .vmem S256x1 .f32) (harg3 : arg3.IsWhole)
    (arg4 : Memref sig .tc .vmem S2048x256 .f32) (harg4 : arg4.IsWhole)
    (arg5 : Memref sig .tc .vmem S4096 .f32) (harg5 : arg5.IsWhole)
    (arg6 : Memref sig .tc .vmem S256x2048 .bf16) (harg6 : arg6.IsWhole)
    (arg7 : Memref sig .tc .vmem S1920x256 .bf16) (harg7 : arg7.IsWhole)
    (hc0 : ¬cond0_0 i)
    (x0 : Vec F S16x4096 .i32) (x1 : Vec F S256x1920 .f32) (x2 : Vec F S256x1 .f32) (x3 : Vec F S2048x256 .f32)
    (xs0 : Vec F S256x2048 .bf16) (xs1 : Vec F S1920x256 .bf16) :
    sout0_B_1 c i arg1 harg1 arg2 harg2 arg3 harg3 arg4 harg4 arg5 harg5 arg6 harg6 arg7 harg7 hc0 x0 x1 x2 x3 xs0 xs1 = xs1 := rfl

/-- The first point stores `hiddenWeights` in the first scratch array. -/
theorem hidden_first (c : Dev nD) (i : grid0.Coords)
    (arg1 : Memref sig .tc .vmem S16x4096 .i32) (harg1 : arg1.IsWhole)
    (arg2 : Memref sig .tc .vmem S256x1920 .f32) (harg2 : arg2.IsWhole)
    (arg3 : Memref sig .tc .vmem S256x1 .f32) (harg3 : arg3.IsWhole)
    (arg4 : Memref sig .tc .vmem S2048x256 .f32) (harg4 : arg4.IsWhole)
    (arg5 : Memref sig .tc .vmem S4096 .f32) (harg5 : arg5.IsWhole)
    (arg6 : Memref sig .tc .vmem S256x2048 .bf16) (harg6 : arg6.IsWhole)
    (arg7 : Memref sig .tc .vmem S1920x256 .bf16) (harg7 : arg7.IsWhole)
    (hc0 : cond0_0 i)
    (x0 : Vec F S16x4096 .i32) (x1 : Vec F S256x1920 .f32) (x2 : Vec F S256x1 .f32) (x3 : Vec F S2048x256 .f32) :
    sout0_A_0 c i arg1 harg1 arg2 harg2 arg3 harg3 arg4 harg4 arg5 harg5 arg6 harg6 arg7 harg7 hc0 x0 x1 x2 x3 = hiddenWeights x1 x2 := by
  have e1 : View.readAt (Elt F) arg2.view (Rect.unit ![0, 0] S256x1920.size inb_S256x1920_S256x1920_0_0).toLoadRect
      (harg2.unread x1) = x1 := by
    rw [View.readAt_eq_ld, harg2.read_unread]; exact View.ld_unit_zero offsets2 _ _
  have e2 : View.readAt (Elt F) arg3.view (Rect.unit ![0, 0] S256x1.size inb_S256x1_S256x1_0_0).toLoadRect
      (harg3.unread x2) = x2 := by
    rw [View.readAt_eq_ld, harg3.read_unread]; exact View.ld_unit_zero offsets2 _ _
  unfold sout0_A_0
  rw [View.read_writes_eq_canon _ _ _ (scover0_A_0 c i arg1 harg1 arg2 harg2 arg3 harg3 arg4 harg4 arg5 harg5 arg6 harg6 arg7 harg7 hc0 x0 x1 x2 x3)]
  unfold kernelRun0_A
  dsimp only
  sl_unfold_run_names
  rw [View.canon_unit_zero offsets2, e1, e2]
  rfl

/-- The first point stores `logitWeights` in the second scratch array. -/
theorem logit_first (c : Dev nD) (i : grid0.Coords)
    (arg1 : Memref sig .tc .vmem S16x4096 .i32) (harg1 : arg1.IsWhole)
    (arg2 : Memref sig .tc .vmem S256x1920 .f32) (harg2 : arg2.IsWhole)
    (arg3 : Memref sig .tc .vmem S256x1 .f32) (harg3 : arg3.IsWhole)
    (arg4 : Memref sig .tc .vmem S2048x256 .f32) (harg4 : arg4.IsWhole)
    (arg5 : Memref sig .tc .vmem S4096 .f32) (harg5 : arg5.IsWhole)
    (arg6 : Memref sig .tc .vmem S256x2048 .bf16) (harg6 : arg6.IsWhole)
    (arg7 : Memref sig .tc .vmem S1920x256 .bf16) (harg7 : arg7.IsWhole)
    (hc0 : cond0_0 i)
    (x0 : Vec F S16x4096 .i32) (x1 : Vec F S256x1920 .f32) (x2 : Vec F S256x1 .f32) (x3 : Vec F S2048x256 .f32) :
    sout0_A_1 c i arg1 harg1 arg2 harg2 arg3 harg3 arg4 harg4 arg5 harg5 arg6 harg6 arg7 harg7 hc0 x0 x1 x2 x3 = logitWeights x3 := by
  unfold sout0_A_1
  rw [View.read_writes_eq_canon _ _ _ (scover0_A_1 c i arg1 harg1 arg2 harg2 arg3 harg3 arg4 harg4 arg5 harg5 arg6 harg6 arg7 harg7 hc0 x0 x1 x2 x3)]
  unfold kernelRun0_A
  dsimp only
  sl_unfold_run_names
  rw [View.canon_unit_zero offsets2, View.readAt_eq_ld, harg4.read_unread]
  rfl

/-- At the first point the results are `blockValue` of the point's class indices and the scratch arrays
    the point itself has just filled. -/
theorem out_first (c : Dev nD) (i : grid0.Coords)
    (arg1 : Memref sig .tc .vmem S16x4096 .i32) (harg1 : arg1.IsWhole)
    (arg2 : Memref sig .tc .vmem S256x1920 .f32) (harg2 : arg2.IsWhole)
    (arg3 : Memref sig .tc .vmem S256x1 .f32) (harg3 : arg3.IsWhole)
    (arg4 : Memref sig .tc .vmem S2048x256 .f32) (harg4 : arg4.IsWhole)
    (arg5 : Memref sig .tc .vmem S4096 .f32) (harg5 : arg5.IsWhole)
    (arg6 : Memref sig .tc .vmem S256x2048 .bf16) (harg6 : arg6.IsWhole)
    (arg7 : Memref sig .tc .vmem S1920x256 .bf16) (harg7 : arg7.IsWhole)
    (hc0 : cond0_0 i)
    (x0 : Vec F S16x4096 .i32) (x1 : Vec F S256x1920 .f32) (x2 : Vec F S256x1 .f32) (x3 : Vec F S2048x256 .f32) :
    out0_A_4 c i arg1 harg1 arg2 harg2 arg3 harg3 arg4 harg4 arg5 harg5 arg6 harg6 arg7 harg7 hc0 x0 x1 x2 x3
      = blockValue x0 (hiddenWeights x1 x2) (logitWeights x3) := by
  have e1 : View.readAt (Elt F) arg2.view (Rect.unit ![0, 0] S256x1920.size inb_S256x1920_S256x1920_0_0).toLoadRect
      (harg2.unread x1) = x1 := by
    rw [View.readAt_eq_ld, harg2.read_unread]; exact View.ld_unit_zero offsets2 _ _
  have e2 : View.readAt (Elt F) arg3.view (Rect.unit ![0, 0] S256x1.size inb_S256x1_S256x1_0_0).toLoadRect
      (harg3.unread x2) = x2 := by
    rw [View.readAt_eq_ld, harg3.read_unread]; exact View.ld_unit_zero offsets2 _ _
  have h1 : kernelRun0_A.sl.v121 c arg2 harg2 arg3 harg3 arg6 x1 x2 = hiddenWeights x1 x2 := by
    sl_unfold_run_names
    rw [View.readCov_unit_zero (S := S256x2048) _ offsets2, e1, e2]
    rfl
  have h2 : kernelRun0_A.sl.v126 c arg4 harg4 arg7 x3 = logitWeights x3 := by
    sl_unfold_run_names
    rw [View.readCov_unit_zero (S := S1920x256) _ offsets2, View.readAt_eq_ld, harg4.read_unread]
    rfl
  have e0 : View.readAt (Elt F) arg1.view (Rect.unit ![0, 0] S16x4096.size inb_S16x4096_S16x4096_0_0).toLoadRect
      (harg1.unread x0) = x0 := by
    rw [View.readAt_eq_ld, harg1.read_unread]; exact View.ld_unit_zero offsets2 _ _
  unfold out0_A_4
  rw [View.read_writes_eq_canon _ _ _ (cover0_A_4 c i arg1 harg1 arg2 harg2 arg3 harg3 arg4 harg4 arg5 harg5 arg6 harg6 arg7 harg7 hc0 x0 x1 x2 x3)]
  unfold kernelRun0_A
  dsimp only
  rw [← h1, ← h2]
  sl_unfold_run_names
  rw [View.canon_unit_zero offsets1]
  simp only [e0]
  rfl

end Cert.KernelIdeal.Made

end
-- ==== Proof.Made.Array.lean ====
/-
What the result array holds after the launch: index `i` lies in block `i / 4096`, and holds that block's
value at `i % 4096`, with the scratch arrays as the first point filled them.
-/
module

public import proofs.«01_k».proof.Proof.Made.Step
public import Idealize.ShloMosaic.Lib.Pointwise
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.KernelIdeal.Made

open Cert.KernelIdeal Cert.KernelIdeal.Gen

variable {F : FTy → Type} [FloatOps F] [Named F]
variable (m : (ℓ : Loc nD τ sig) → Buf (Elt F) ℓ)

/-- The first scratch array after the first point. -/
def hiddenScratch (c : Dev nD) : FVec F S256x2048 .bf16 := hiddenWeights (iblk m c 1 t0_0) (iblk m c 2 t0_0)

/-- The second scratch array after the first point. -/
def logitScratch (c : Dev nD) : FVec F S1920x256 .bf16 := logitWeights (iblk m c 3 t0_0)

/-- After point `n` the output buffer holds the block value of that point, and the scratch arrays hold what
    the first point stored. -/
theorem outsAt_eq (c : Dev nD) : ∀ (n : ℕ) (hn : n < cfg0.N),
    outsAt0 m c n hn = (blockValue (iblk m c 0 ⟨n, hn⟩) (hiddenScratch m c) (logitScratch m c),
      hiddenScratch m c, logitScratch m c)
  | 0, hn => by
    rw [outsAt0_A m c ⟨0, hn⟩ rfl, out_first, hidden_first, logit_first]
    rfl
  | n + 1, hn => by
    have hN : cfg0.N = 4 := N_0
    have hB : ¬(⟨n + 1, hn⟩ : Fin cfg0.N).val % 4 = 0 := by dsimp only; omega
    rw [outsAt0_B m c ⟨n + 1, hn⟩ hB, out_later, hidden_later, logit_later]
    simp only [Nat.add_sub_cancel, outsAt_eq c n]

/-- The windows' block indices at every point. -/
theorem block_index : ∀ t : Fin cfg0.N, win0_0.index t = ![0, t.val] ∧ win0_1.index t = ![0, 0]
    ∧ win0_2.index t = ![0, 0] ∧ win0_3.index t = ![0, 0] :=
  (by decide +kernel : ∀ t : Fin grid0.N, _)

/-- The block's class indices are columns `4096 t` to `4096 t + 4095` of the transposed indices. -/
theorem classes_at (c : Dev nD) (t : Fin cfg0.N) (d : Fin 16) (j : Fin 4096) (b : Fin 16384)
    (hb : b.val = t.val * 4096 + j.val) :
    iblk m c 0 t (ix2 d j) = m ((c : Thread nD τ).loc main_arg0) (ix2 b d) := by
  have he : (win0_0.blk t).view.emb (ix2 d j) = (ix2 d b : S16x16384.Idx) := by
    blk_ext [block_index t]
  unfold iblk
  entry_read
  refine (congrArg (transpose S16x16384 [1, 0] (m ((c : Thread nD τ).loc main_arg0)) transposes_S16384x16_S16x16384_1_0) he).trans ?_
  pointwise

/-- The first weights' block is the transposed array. -/
theorem weights1_at (c : Dev nD) (t : Fin cfg0.N) (k : Fin 256) (r : Fin 1920) :
    iblk m c 1 t (ix2 k r) = m ((c : Thread nD τ).loc main_arg1) (ix2 r k) := by
  have he : (win0_1.blk t).view.emb (ix2 k r) = (ix2 k r : S256x1920.Idx) := by
    blk_ext [block_index t]
  unfold iblk
  entry_read
  refine (congrArg (transpose S256x1920 [1, 0] (m ((c : Thread nD τ).loc main_arg1)) transposes_S1920x256_S256x1920_1_0) he).trans ?_
  pointwise

/-- The hidden biases' block is the bias vector as one column. -/
theorem bias1_at (c : Dev nD) (t : Fin cfg0.N) (k : Fin 256) (z : Fin 1) :
    iblk m c 2 t (ix2 k z) = m ((c : Thread nD τ).loc main_arg2) (ix1 k) := by
  have he : (win0_2.blk t).view.emb (ix2 k z) = (ix2 k z : S256x1.Idx) := by
    blk_ext [block_index t]
  unfold iblk
  entry_read
  refine (congrArg (shapeCast S256x1 (m ((c : Thread nD τ).loc main_arg2)) shapeCasts_S256_S256x1) he).trans ?_
  pointwise

/-- The second weights' block is the transposed array. -/
theorem weights2_at (c : Dev nD) (t : Fin cfg0.N) (q : Fin 2048) (k : Fin 256) :
    iblk m c 3 t (ix2 q k) = m ((c : Thread nD τ).loc main_arg3) (ix2 k q) := by
  have he : (win0_3.blk t).view.emb (ix2 q k) = (ix2 q k : S2048x256.Idx) := by
    blk_ext [block_index t]
  unfold iblk
  entry_read
  refine (congrArg (transpose S2048x256 [1, 0] (m ((c : Thread nD τ).loc main_arg3)) transposes_S256x2048_S2048x256_1_0) he).trans ?_
  pointwise

/-- The result array at index `i`: the value of block `i / 4096` at place `i % 4096`. -/
theorem result_at (c : Dev nD) (t : Fin cfg0.N) (j : Fin 4096) (i : S16384.Idx)
    (hi : (i 0).val = t.val * 4096 + j.val) :
    Cert.KernelIdeal.Value.G4 m c i
      = blockValue (iblk m c 0 t) (hiddenScratch m c) (logitScratch m c) (ix1 j) := by
  have hN : cfg0.N = 4 := N_0
  have hj := j.isLt
  have ht : Cert.KernelIdeal.Value.pt4Of i = t.val := by
    show 1 * ((i 0).val / 4096 - 0) = t.val
    omega
  have hl : Cert.KernelIdeal.Value.loc4Of i = ix1 j := by
    funext a
    apply Fin.ext
    match a with
    | ⟨0, _⟩ => show (i 0).val % 4096 = j.val; omega
  unfold Cert.KernelIdeal.Value.G4
  rw [dif_pos (by rw [ht]; exact t.isLt),
    ← Cert.KernelIdeal.Value.outsAt0_sweep m c _ (by rw [ht]; exact t.isLt), outsAt_eq, hl]
  dsimp only
  rw [show (⟨Cert.KernelIdeal.Value.pt4Of i, by rw [ht]; exact t.isLt⟩ : Fin cfg0.N) = t from Fin.ext ht]

end Cert.KernelIdeal.Made

end
-- ==== Proof.Made.Equation.lean ====
/-
  The equation of the two results, over the extended reals and over one batch row. The kernel works with logits scaled by
  `1 / log 2` and takes one logarithm of the product of the blocks' normalisers; the reference divides block by block and
  takes the logarithm of the product of the quotients. Block 0 of the logits is zero, which is the kernel's `- log 128`.
  Nothing here names a program.
-/
module

public import Idealize.ShloMosaic.PureOps.Ideal
public import Mathlib.Analysis.SpecialFunctions.Log.Basic
public import Mathlib.Analysis.SpecialFunctions.Pow.Real
public import Mathlib.Data.EReal.Inv

@[expose] public section

noncomputable section

namespace Cert.Made

open Idealize.ShloMosaic

/-! ### The three named constants -/

/-- `1 / log 2`, the factor that turns a natural exponent into a binary one. -/
abbrev invLn2 : EReal := (((Real.log 2)⁻¹ : ℝ) : EReal)

/-- `log 2`. -/
abbrev ln2 : EReal := ((Real.log 2 : ℝ) : EReal)

/-- `log 128`: the logarithm of the size of one block. -/
abbrev ln128 : EReal := ((Real.log 128 : ℝ) : EReal)

/-! ### The exponentials -/

theorem log_two_pos : 0 < Real.log 2 := Real.log_pos (by norm_num)

theorem exp_coe (r : ℝ) : Ideal.exp (r : EReal) = ((Real.exp r : ℝ) : EReal) := rfl

/-- The binary exponential of a logit scaled by `1 / log 2` is the exponential of the logit. -/
theorem exp2_scaled (y : EReal) : Ideal.exp2 (y * invLn2) = Ideal.exp y := by
  have hp : (0 : ℝ) < (Real.log 2)⁻¹ := inv_pos.mpr log_two_pos
  induction y with
  | bot => rw [EReal.bot_mul_coe_of_pos hp]; rfl
  | top => rw [EReal.top_mul_coe_of_pos hp]; rfl
  | coe r =>
    rw [← EReal.coe_mul, exp_coe]
    show ((Real.rpow 2 (r * (Real.log 2)⁻¹) : ℝ) : EReal) = _
    congr 1
    show (2 : ℝ) ^ (r * (Real.log 2)⁻¹) = _
    rw [Real.rpow_def_of_pos (by norm_num)]
    congr 1
    field_simp [log_two_pos.ne']

theorem exp_nonneg (y : EReal) : 0 ≤ Ideal.exp y := by
  induction y with
  | bot => exact le_refl _
  | top => exact le_top
  | coe r => exact EReal.coe_nonneg.mpr (Real.exp_pos r).le

theorem exp_pos {y : EReal} (h : y ≠ ⊥) : 0 < Ideal.exp y := by
  induction y with
  | bot => exact absurd rfl h
  | top => exact EReal.zero_lt_top
  | coe r => exact EReal.coe_pos.mpr (Real.exp_pos r)

/-! ### Sums and products -/

/-- A sum of embedded reals is the embedded sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of embedded reals is the embedded product. -/
theorem coe_prod {ι : Type} (s : Finset ι) (f : ι → ℝ) : ((∏ i ∈ s, f i : ℝ) : EReal) = ∏ i ∈ s, (f i : EReal) := by
  classical
  induction s using Finset.induction_on with
  | empty => simp
  | insert a s ha ih => rw [Finset.prod_insert ha, Finset.prod_insert ha, EReal.coe_mul, ih]

/-- Multiplication by a nonnegative real goes inside a finite sum. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih,
      EReal.right_distrib_of_nonneg_of_ne_top (EReal.coe_nonneg.mpr hc) (EReal.coe_ne_top c)]

/-- A finite sum of nonnegative terms, one of them `+∞`, is `+∞`. -/
theorem sum_eq_top {ι : Type} (s : Finset ι) (f : ι → EReal) (hf : ∀ i ∈ s, 0 ≤ f i) {i : ι} (hi : i ∈ s) (h : f i = ⊤) :
    ∑ i ∈ s, f i = ⊤ :=
  top_le_iff.mp (h ▸ Finset.single_le_sum (f := f) hf hi)

/-- A sum none of whose terms is `-∞` is not `-∞`. -/
theorem sum_ne_bot {ι : Type} (s : Finset ι) (f : ι → EReal) (hf : ∀ i ∈ s, f i ≠ ⊥) : ∑ i ∈ s, f i ≠ ⊥ :=
  Finset.sum_induction f (· ≠ ⊥) (fun _ _ ha hb => EReal.add_ne_bot_iff.mpr ⟨ha, hb⟩) EReal.zero_ne_bot hf

/-- A sum none of whose terms is `+∞` is not `+∞`. -/
theorem sum_ne_top {ι : Type} (s : Finset ι) (f : ι → EReal) (hf : ∀ i ∈ s, f i ≠ ⊤) : ∑ i ∈ s, f i ≠ ⊤ :=
  Finset.sum_induction f (· ≠ ⊤) (fun _ _ ha hb => EReal.add_ne_top ha hb) EReal.zero_ne_top hf

theorem prod_pos {ι : Type} (s : Finset ι) (f : ι → EReal) (hf : ∀ i ∈ s, 0 < f i) : 0 < ∏ i ∈ s, f i :=
  Finset.prod_induction f (0 < ·) (fun _ _ ha hb => EReal.mul_pos ha hb) zero_lt_one hf

/-- A finite product of positive factors, one of them `+∞`, is `+∞`. -/
theorem prod_eq_top {ι : Type} [DecidableEq ι] (s : Finset ι) (f : ι → EReal) (hf : ∀ i ∈ s, 0 < f i) {i : ι} (hi : i ∈ s) (h : f i = ⊤) :
    ∏ i ∈ s, f i = ⊤ := by
  rw [← Finset.mul_prod_erase s f hi, h]
  exact EReal.top_mul_of_pos (prod_pos _ _ fun j hj => hf j (Finset.mem_of_mem_erase hj))

/-! ### The two results of one batch row -/

/-- The indicator of the selected entry: 1 at `k`, 0 elsewhere. -/
def pick (k v : Fin 128) : EReal := if v = k then 1 else 0

/-- Summing against the indicator reads the selected entry. -/
theorem sum_mul_pick (f : Fin 128 → EReal) (k : Fin 128) : ∑ v, f v * pick k v = f k := by
  unfold pick
  simp only [mul_ite, mul_one, mul_zero, Finset.sum_ite_eq', Finset.mem_univ, if_true]

/-- What the kernel computes of the scaled logits `z` of the blocks 1 … 15 (numbered from 0) and of the indicators `o`:
    the selected logits summed, less the logarithm of the product of the normalisers, brought back to natural
    logarithms, less `log 128`. -/
def kernelValue (z o : ℕ → Fin 128 → EReal) : EReal :=
  ((∑ v, ∑ d ∈ Finset.range 15, z d v * o (d + 1) v)
    - Ideal.log (∏ d ∈ Finset.range 15, ∑ v, Ideal.exp2 (z d v)) * invLn2) * ln2 - ln128

/-- What the reference computes of the logits `y` of the blocks 0 … 15 and of the indicators `o`: the logarithm of the
    product of the selected probabilities. -/
def referenceValue (y o : ℕ → Fin 128 → EReal) : EReal :=
  Ideal.log (∏ d ∈ Finset.range 16, Ideal.div (∑ v, Ideal.exp (y d v) * o d v) (∑ v, Ideal.exp (y d v)))

theorem card_coe : (∑ _v : Fin 128, (1 : EReal)) = ((128 : ℝ) : EReal) := by
  rw [← EReal.coe_one, ← coe_sum]; norm_num

theorem norm_pos (y : Fin 128 → EReal) (hb : ∀ v, y v ≠ ⊥) : 0 < ∑ v, Ideal.exp (y v) :=
  lt_of_lt_of_le (exp_pos (hb 0)) (Finset.single_le_sum (f := fun v => Ideal.exp (y v)) (fun v _ => exp_nonneg _) (Finset.mem_univ 0))

/-- The kernel's value with its scaling read away: what is left is in natural exponentials. -/
theorem kernelValue_scaled (y : ℕ → Fin 128 → EReal) (k : ℕ → Fin 128) :
    kernelValue (fun d v => y (d + 1) v * invLn2) (fun d => pick (k d))
      = ((∑ d ∈ Finset.range 15, y (d + 1) (k (d + 1))) * invLn2
          - Ideal.log (∏ d ∈ Finset.range 15, ∑ v, Ideal.exp (y (d + 1) v)) * invLn2) * ln2 - ln128 := by
  unfold kernelValue
  rw [Finset.sum_comm]
  simp only [sum_mul_pick, exp2_scaled]
  rw [sum_mul_coe _ _ (inv_pos.mpr log_two_pos).le]

/-- The reference's value with its indicators read away. -/
theorem referenceValue_picked (y : ℕ → Fin 128 → EReal) (k : ℕ → Fin 128) (h0 : ∀ v, y 0 v = 0) :
    referenceValue y (fun d => pick (k d))
      = Ideal.log ((∏ d ∈ Finset.range 15, Ideal.div (Ideal.exp (y (d + 1) (k (d + 1)))) (∑ v, Ideal.exp (y (d + 1) v)))
          * Ideal.div 1 ((128 : ℝ) : EReal)) := by
  unfold referenceValue
  have e0 : Ideal.exp 0 = 1 := by rw [← EReal.coe_zero, exp_coe, Real.exp_zero, EReal.coe_one]
  simp only [sum_mul_pick]
  rw [Finset.prod_range_succ']
  simp only [h0, e0, card_coe]

/-- Division of reals by a positive real. -/
theorem div_coe (a : ℝ) {b : ℝ} (hb : 0 < b) : Ideal.div (a : EReal) (b : EReal) = ((a / b : ℝ) : EReal) := by
  unfold Ideal.div
  rw [if_neg (by exact_mod_cast hb.ne'), ← EReal.coe_inv, ← EReal.coe_mul, div_eq_mul_inv]

theorem log_coe {a : ℝ} (h : 0 < a) : Ideal.log (a : EReal) = ((Real.log a : ℝ) : EReal) := by
  show (if a ≤ 0 then (⊥ : EReal) else ((Real.log a : ℝ) : EReal)) = _
  rw [if_neg (not_le.mpr h)]

/-- The two values agree where every logit is a real number. -/
theorem values_eq_real (r : ℕ → Fin 128 → ℝ) (k : ℕ → Fin 128) :
    ((∑ d ∈ Finset.range 15, (r d (k (d + 1)) : EReal)) * invLn2
        - Ideal.log (∏ d ∈ Finset.range 15, ∑ v, Ideal.exp (r d v : EReal)) * invLn2) * ln2 - ln128
      = Ideal.log ((∏ d ∈ Finset.range 15, Ideal.div (Ideal.exp (r d (k (d + 1)) : EReal)) (∑ v, Ideal.exp (r d v : EReal)))
          * Ideal.div 1 ((128 : ℝ) : EReal)) := by
  have hN : ∀ d, 0 < ∑ v, Real.exp (r d v) := fun d => Finset.sum_pos (fun v _ => Real.exp_pos _) Finset.univ_nonempty
  have hP : 0 < ∏ d ∈ Finset.range 15, ∑ v, Real.exp (r d v) := Finset.prod_pos fun d _ => hN d
  have hE : 0 < ∏ d ∈ Finset.range 15, Real.exp (r d (k (d + 1))) := Finset.prod_pos fun d _ => Real.exp_pos _
  have one : (1 : EReal) = ((1 : ℝ) : EReal) := EReal.coe_one.symm
  simp only [exp_coe, ← coe_sum, ← coe_prod, one, div_coe _ (hN _), div_coe _ (show (0 : ℝ) < 128 by norm_num)]
  rw [log_coe hP, ← EReal.coe_mul, ← EReal.coe_mul, ← EReal.coe_mul, ← EReal.coe_sub, ← EReal.coe_mul, ← EReal.coe_sub,
    Finset.prod_div_distrib, log_coe (mul_pos (div_pos hE hP) (by norm_num)), Real.log_mul (div_pos hE hP).ne' (by norm_num),
    Real.log_div hE.ne' hP.ne', ← Real.exp_sum, Real.log_exp, Real.log_div one_ne_zero (by norm_num), Real.log_one]
  congr 1
  have h2 := log_two_pos.ne'
  field_simp
  ring

/-- Both values are `-∞` where some logit is `+∞`: the normaliser of its block is `+∞`, so the reference's quotient is 0 and
    the kernel subtracts `+∞`. -/
theorem values_eq_top (y : ℕ → Fin 128 → EReal) (k : ℕ → Fin 128) (hb : ∀ d v, y d v ≠ ⊥) {d₀ : ℕ} (hd : d₀ ∈ Finset.range 15)
    {v₀ : Fin 128} (ht : y d₀ v₀ = ⊤) :
    ((∑ d ∈ Finset.range 15, y d (k (d + 1))) * invLn2
        - Ideal.log (∏ d ∈ Finset.range 15, ∑ v, Ideal.exp (y d v)) * invLn2) * ln2 - ln128
      = Ideal.log ((∏ d ∈ Finset.range 15, Ideal.div (Ideal.exp (y d (k (d + 1)))) (∑ v, Ideal.exp (y d v)))
          * Ideal.div 1 ((128 : ℝ) : EReal)) := by
  have hN : ∑ v, Ideal.exp (y d₀ v) = ⊤ :=
    sum_eq_top _ _ (fun v _ => exp_nonneg _) (Finset.mem_univ v₀) (by rw [ht]; rfl)
  rw [prod_eq_top _ _ (fun d _ => norm_pos _ (hb d)) hd hN,
    Finset.prod_eq_zero hd (by rw [hN]; unfold Ideal.div; rw [if_neg EReal.top_ne_zero, EReal.inv_top, mul_zero]), zero_mul]
  have hl0 : Ideal.log 0 = ⊥ := by
    rw [← EReal.coe_zero]; show (if (0 : ℝ) ≤ 0 then (⊥ : EReal) else _) = _; rw [if_pos le_rfl]
  have hlt : Ideal.log ⊤ = ⊤ := rfl
  rw [hl0, hlt, EReal.top_mul_coe_of_pos (inv_pos.mpr log_two_pos), EReal.sub_top, EReal.bot_mul_coe_of_pos log_two_pos, EReal.bot_sub]

/-- THE EQUATION. For logits none of which is `-∞`, zero on block 0, the kernel's value of the logits scaled by `1 / log 2`
    is the reference's value of the logits. -/
theorem kernelValue_eq (y : ℕ → Fin 128 → EReal) (k : ℕ → Fin 128) (h0 : ∀ v, y 0 v = 0) (hb : ∀ d v, y d v ≠ ⊥) :
    kernelValue (fun d v => y (d + 1) v * invLn2) (fun d => pick (k d)) = referenceValue y (fun d => pick (k d)) := by
  rw [kernelValue_scaled, referenceValue_picked y k h0]
  by_cases ht : ∃ d ∈ Finset.range 15, ∃ v, y (d + 1) v = ⊤
  · obtain ⟨d, hd, v, hv⟩ := ht
    exact values_eq_top (fun d => y (d + 1)) k (fun d => hb (d + 1)) hd hv
  · have hr : ∀ d ∈ Finset.range 15, ∀ v, y (d + 1) v = ((y (d + 1) v).toReal : EReal) := fun d hd v =>
      (EReal.coe_toReal (fun h => ht ⟨d, hd, v, h⟩) (hb _ _)).symm
    have e := values_eq_real (fun d v => (y (d + 1) v).toReal) k
    rw [Finset.sum_congr rfl fun d hd => hr d hd _,
      Finset.prod_congr (g := fun d => ∑ v, Ideal.exp ((y (d + 1) v).toReal : EReal)) rfl
        (fun d hd => Finset.sum_congr rfl fun v _ => congrArg Ideal.exp (hr d hd v)),
      Finset.prod_congr (g := fun d => Ideal.div (Ideal.exp ((y (d + 1) (k (d + 1))).toReal : EReal)) (∑ v, Ideal.exp ((y (d + 1) v).toReal : EReal))) rfl
        (fun d hd => congrArg₂ Ideal.div (congrArg Ideal.exp (hr d hd _)) (Finset.sum_congr rfl fun v _ => congrArg Ideal.exp (hr d hd v)))]
    exact e

end Cert.Made

end
-- ==== Proof.Made.OneHot.lean ====
/-
The one-hot rows of a block: row `v` of class `d` is one where the class index of that column is `v`, and
zero elsewhere; the stacked array of all sixteen is read at a row by its block and its place there.
-/
module

public import proofs.«01_k».proof.Proof.Made.Step
public import proofs.«01_k».proof.Proof.Made.Equation
public import Idealize.ShloMosaic.Lib.Pointwise
public import Idealize.ShloMosaic.Lib.IdealHost
public import Idealize.ShloMosaic.Lib.Pipeline.Value

@[expose] public section

set_option maxRecDepth 16384

noncomputable section

open Idealize.ShloMosaic Idealize.ShloMosaic.TcCoe Idealize.SL.Sem

namespace Cert.KernelIdeal.Made

open Cert.KernelIdeal Cert.KernelIdeal.Gen Cert.Made

section
variable {F : FTy → Type} [FloatOps F]

/-- The one-hot rows the kernel builds for each of the sixteen classes. -/
def hotRows (x0 : Vec F S16x4096 .i32) : Fin 16 → FVec F S128x4096 .bf16 :=
  ![k0_pay12 x0, k0_pay13 x0, k0_pay14 x0, k0_pay15 x0, k0_pay16 x0, k0_pay18 k0_pay11 (k0_pay17 x0),
    k0_pay19 (k0_pay10 x0) k0_pay11, k0_pay20 (k0_pay10 x0) k0_pay11, k0_pay21 (k0_pay10 x0) k0_pay11,
    k0_pay22 (k0_pay10 x0) k0_pay11, k0_pay23 (k0_pay10 x0) k0_pay11,
    k0_pay26 (k0_pay24 (k0_pay10 x0) k0_pay11) (Scalar.ofBits .bf16 0x0000#16) k0_pay25,
    k0_pay27 (k0_pay10 x0) k0_pay11, k0_pay28 (k0_pay10 x0) k0_pay11, k0_pay29 (k0_pay10 x0) k0_pay11,
    k0_pay30 (k0_pay10 x0) k0_pay11]

/-- The sixteen one-hot arrays stacked. -/
def hotStack (x0 : Vec F S16x4096 .i32) : FVec F S2048x4096 .bf16 :=
  concatenate S2048x4096 0 (List.ofFn fun d : Fin 16 => (⟨S128x4096, hotRows x0 d⟩ : (s : Shape) × (s.Idx → F .bf16)))
    concatenates_S128x4096_S128x4096_S128x4096_S128x4096_S128x4096_S128x4096_S128x4096_S128x4096_S128x4096_S128x4096_S128x4096_S128x4096_S128x4096_S128x4096_S128x4096_S128x4096_S2048x4096_d0

/-- The stacked array at row `r`: block `r / 128`, row `r % 128` of it. -/
theorem hotStack_at (x0 : Vec F S16x4096 .i32) (r : Fin 2048) (j : Fin 4096) :
    hotStack x0 (ix2 r j) = hotRows x0 ⟨r.val / 128, by omega⟩ (ix2 ⟨r.val % 128, by omega⟩ j) := by
  unfold hotStack
  refine concatenate_ofFn_apply (t := S2048x4096) (s₁ := S128x4096) 0 (hotRows x0) _ rfl 128 rfl (ix2 r j) ⟨r.val / 128, by omega⟩ rfl _ rfl ?_
  intro b hb
  match b with
  | ⟨0, _⟩ => exact absurd rfl hb
  | ⟨1, _⟩ => rfl

end

/-- Two integers read as floats agree exactly when the words do, so a one-hot entry is `pick`. -/
theorem hot_entry (k v : Fin 128) :
    (if (FloatOps.sitofp FTy.bf16 (BitVec.ofNat 32 v.val) : Ideal .bf16) = FloatOps.sitofp FTy.bf16 (BitVec.ofNat 32 k.val)
      then (1 : EReal) else 0) = pick k v := by
  have h : ∀ n : Fin 128, (BitVec.ofNat 32 n.val).toInt = (n.val : ℤ) := by decide +kernel
  unfold pick
  refine if_congr ?_ rfl rfl
  show ((((BitVec.ofNat 32 v.val).toInt : ℝ) : EReal) = (((BitVec.ofNat 32 k.val).toInt : ℝ) : EReal)) ↔ _
  rw [EReal.coe_eq_coe_iff, Int.cast_inj, h, h, Nat.cast_inj, Fin.ext_iff]

/-- The one-hot rows at an index, the class indices being in range. -/
theorem hotRows_at (x0 : Vec Ideal S16x4096 .i32) (d : Fin 16) (v : Fin 128) (j : Fin 4096) (k : Fin 128)
    (hk : x0 (ix2 d j) = BitVec.ofNat 32 k.val) : hotRows x0 d (ix2 v j) = pick k v := by
  rw [← hot_entry, ← hk]
  clear hk
  fin_cases d <;>
  · dsimp only [hotRows]
    pointwise [k0_pay10, k0_pay11, k0_pay12, k0_pay13, k0_pay14, k0_pay15, k0_pay16, k0_pay17, k0_pay18, k0_pay19,
      k0_pay20, k0_pay21, k0_pay22, k0_pay23, k0_pay24, k0_pay25, k0_pay26, k0_pay27, k0_pay28, k0_pay29, k0_pay30]

end Cert.KernelIdeal.Made

end
-- ==== Proof.Made.Masks.lean ====
/-
What the two scratch arrays hold at an index, on the extended reals.

The kernel compares a block number (a floor division by 128) with a degree (a remainder by 15); both are
spelt out over 32-bit words.  Here they are read as the natural numbers they stand for.
-/
module

public import proofs.«01_k».proof.Proof.Made.Array
public import Idealize.ShloMosaic.Lib.IdealHost

@[expose] public section

set_option maxRecDepth 16384

noncomputable section

open Idealize.ShloMosaic Idealize.ShloMosaic.TcCoe Idealize.SL.Sem

namespace Cert.KernelIdeal.Made

open Cert.KernelIdeal Cert.KernelIdeal.Gen

/-- The kernel's floor division by 128, as it is spelt over words. -/
def wordBlock (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector w 128#32) 0#32))
    (IntOp.subi (IntOp.divsi ArithUnit.vector w 128#32) 1#32)
    (IntOp.divsi ArithUnit.vector w 128#32)

/-- The kernel's remainder by 15, as it is spelt over words. -/
def wordDegree (w : BitVec 32) : BitVec 32 :=
  Scalar.select
    (IntOp.andi
      (IntOp.xori
        (IntOp.cmpi CmpIPredicate.slt
          (IntOp.remsi ArithUnit.vector w (Scalar.select (Scalar.cmpi CmpIPredicate.eq 15#32 0#32) 1#32 15#32)) 0#32)
        (Scalar.cmpi CmpIPredicate.slt (Scalar.select (Scalar.cmpi CmpIPredicate.eq 15#32 0#32) 1#32 15#32) 0#32))
      (IntOp.cmpi CmpIPredicate.ne
        (IntOp.remsi ArithUnit.vector w (Scalar.select (Scalar.cmpi CmpIPredicate.eq 15#32 0#32) 1#32 15#32)) 0#32))
    (IntOp.addi
      (IntOp.remsi ArithUnit.vector w (Scalar.select (Scalar.cmpi CmpIPredicate.eq 15#32 0#32) 1#32 15#32))
      (Scalar.select (Scalar.cmpi CmpIPredicate.eq 15#32 0#32) 1#32 15#32))
    (IntOp.remsi ArithUnit.vector w (Scalar.select (Scalar.cmpi CmpIPredicate.eq 15#32 0#32) 1#32 15#32))

/-- On the row numbers in use it is the block number. -/
theorem wordBlock_eq : ∀ n : Fin 2048, wordBlock (BitVec.ofNat 32 n) = BitVec.ofNat 32 (n / 128) := by
  decide +kernel

/-- On the hidden unit numbers it is the remainder by 15. -/
theorem wordDegree_eq : ∀ n : Fin 256, wordDegree (BitVec.ofNat 32 n) = BitVec.ofNat 32 (n % 15) := by
  decide +kernel

/-- Comparing two small words compares the numbers. -/
theorem cmp_small : ∀ a b : Fin 17,
    IntOp.cmpi CmpIPredicate.sle (BitVec.ofNat 32 a) (BitVec.ofNat 32 b) = if a.val ≤ b.val then 1#1 else 0#1 := by
  decide +kernel

/-- Selecting by a comparison of two small words is choosing by the numbers. -/
theorem select_small {α : Type} (a b : ℕ) (ha : a < 17) (hb : b < 17) (x y : α) :
    Scalar.select (IntOp.cmpi CmpIPredicate.sle (BitVec.ofNat 32 a) (BitVec.ofNat 32 b)) x y
      = if a ≤ b then x else y := by
  rw [cmp_small ⟨a, ha⟩ ⟨b, hb⟩]
  dsimp only
  split <;> rfl

/-- The first scratch array at hidden unit `k` and row `r`: the weight where the mask allows it, the hidden
    bias on the last 128 rows. -/
theorem hiddenWeights_at (x1 : Vec Ideal S256x1920 .f32) (x2 : Vec Ideal S256x1 .f32) (k : Fin 256) (r : Fin 2048) :
    hiddenWeights x1 x2 (ix2 k r)
      = if h : r.val < 1920 then (if r.val / 128 ≤ k.val % 15 then x1 (ix2 k ⟨r, h⟩) else 0) else x2 (ix2 k 0) := by
  have e : hiddenWeights x1 x2 (ix2 k r)
      = if h : r.val < 1920 then
          Scalar.select (IntOp.cmpi CmpIPredicate.sle (wordBlock (BitVec.ofNat 32 r)) (wordDegree (BitVec.ofNat 32 k)))
            (x1 (ix2 k ⟨r, h⟩)) (0 : EReal)
        else x2 (ix2 k 0) := by
    pointwise [hiddenWeights, k0_pay2, k0_pay3, k0_pay4, wordBlock, wordDegree]
  rw [e, wordBlock_eq, wordDegree_eq]
  refine dite_congr rfl (fun h => ?_) (fun _ => rfl)
  rw [select_small _ _ (by omega) (by omega)]

/-- The named constant of the base change, on the extended reals. -/
theorem named_log2e : (Named.named κ "log2e" 0x3FB8AA3B#32 : Ideal .f32) = (((Real.log 2)⁻¹ : ℝ) : EReal) :=
  IdealRules.named_const.ideal_named_scalar _ _ _ _ rfl

/-- The named constant `ln 2`, on the extended reals. -/
theorem named_ln2 : (Named.named κ "ln2" 0x3F317218#32 : Ideal .f32) = ((Real.log 2 : ℝ) : EReal) :=
  IdealRules.named_const.ideal_named_scalar _ _ _ _ rfl

/-- The named constant `ln 128`, on the extended reals. -/
theorem named_logV : (Named.named κ "logV" 0x409B43D5#32 : Ideal .f32) = ((Real.log 128 : ℝ) : EReal) :=
  IdealRules.named_const.ideal_named_scalar _ _ _ _ rfl

/-- The second scratch array at row `q` (logit `q + 128`) and hidden unit `k`: the weight over `ln 2` where
    the mask allows it. -/
theorem logitWeights_at (x3 : Vec Ideal S2048x256 .f32) (q : Fin 1920) (k : Fin 256) :
    logitWeights x3 (ix2 q k)
      = if k.val % 15 + 1 ≤ (128 + q.val) / 128 then
          x3 (ix2 ⟨128 + q.val, by omega⟩ k) * (((Real.log 2)⁻¹ : ℝ) : EReal) else 0 := by
  have e : logitWeights x3 (ix2 q k)
      = Scalar.select (IntOp.cmpi CmpIPredicate.sle (IntOp.addi (wordDegree (BitVec.ofNat 32 k)) 1#32)
          (wordBlock (IntOp.addi (BitVec.ofNat 32 q) 128#32)))
          ((x3 (ix2 ⟨128 + q.val, by omega⟩ k) * (Named.named κ "log2e" 0x3FB8AA3B#32 : Ideal .f32) : EReal)) (0 : EReal) := by
    pointwise [logitWeights, k0_pay5, k0_pay6, k0_pay7, k0_pay8, k0_pay9, wordBlock, wordDegree]
  have hq : IntOp.addi (BitVec.ofNat 32 q.val) 128#32 = BitVec.ofNat 32 (128 + q.val) := by
    show BitVec.ofNat 32 q.val + BitVec.ofNat 32 128 = _
    rw [← BitVec.ofNat_add, Nat.add_comm]
  have hk : IntOp.addi (BitVec.ofNat 32 (k.val % 15)) 1#32 = BitVec.ofNat 32 (k.val % 15 + 1) := by
    show BitVec.ofNat 32 (k.val % 15) + BitVec.ofNat 32 1 = _
    rw [← BitVec.ofNat_add]
  rw [e, hq, wordDegree_eq, hk, wordBlock_eq ⟨128 + q.val, by omega⟩, select_small _ _ (by omega) (by dsimp only; omega),
    named_log2e]

end Cert.KernelIdeal.Made

end
-- ==== Proof.Made.Block.lean ====
/-
What one block computes, at a column: the kernel's value over that column's stacked logits and one-hot rows.
-/
module

public import proofs.«01_k».proof.Proof.Made.OneHot
public import proofs.«01_k».proof.Proof.Made.Masks

@[expose] public section

set_option maxRecDepth 16384

noncomputable section

open Idealize.ShloMosaic Idealize.ShloMosaic.TcCoe Idealize.SL.Sem

namespace Cert.KernelIdeal.Made

open Cert.KernelIdeal Cert.KernelIdeal.Gen Cert.Made

section
variable {F : FTy → Type} [FloatOps F]

/-- The logits of a block from its stacked one-hot rows: two matrix products with a rectifier between. -/
def stackLogits (s : FVec F S2048x4096 .bf16) (a : Vec F S256x2048 .bf16) (b : Vec F S1920x256 .bf16) :
    FVec F S1920x4096 .f32 :=
  matmul dot_S1920x256_S256x4096_S1920x4096_1_0_0_1_n_n none b
    (truncf .bf16 (maximumf (matmul dot_S256x2048_S2048x4096_S256x4096_1_0_0_1_n_n none a s
        (constant S256x4096 .f32 0x00000000#32)) (broadcast S256x4096 (Scalar.ofBits .f32 0x00000000#32 : F .f32)))
      bitsLt_bf16_f32)
    (constant S1920x4096 .f32 0x00000000#32)

/-- The kernel's logits are those of its own stacked one-hot rows. -/
theorem scaledLogits_eq (x0 : Vec F S16x4096 .i32) (a : Vec F S256x2048 .bf16) (b : Vec F S1920x256 .bf16) :
    scaledLogits x0 a b = stackLogits (hotStack x0) a b := rfl

/-- The sum over the first 128 rows of the exponentials. -/
def firstSum (y : FVec F S1920x4096 .f32) : FVec F S4096 .f32 :=
  multiReduction .add [0] S4096 (exp2 (extractStridedSlice S128x4096 ![0, 0] y slices_S1920x4096_o0_0_S128x4096))
    0x00000000#32 reduces_S128x4096_S4096 (.inl rfl) rfl

/-- The block's results from its logits and its sixteen one-hot arrays. -/
def mixBlock [Named F] (hot : Fin 16 → FVec F S128x4096 .bf16) (y : FVec F S1920x4096 .f32) : FVec F S4096 .f32 :=
  k0_pay1 (k0_pay44 (hot 10) (hot 11) (hot 12) (hot 13) (hot 14) (hot 15) y (k0_pay41 y (firstSum y)) (k0_pay42 y)
      (k0_pay43 (hot 2) (hot 3) (hot 4) (hot 5) (hot 6) (hot 7) (hot 8) (hot 9) y
        (mulf (extractStridedSlice S128x4096 ![0, 0] y slices_S1920x4096_o0_0_S128x4096)
          (extf .f32 (hot 1) bitsLt_bf16_f32))))
    (Named.named κ "ln2" 0x3F317218#32)

/-- The block value is that combination of the kernel's logits and one-hot rows. -/
theorem blockValue_eq [Named F] (x0 : Vec F S16x4096 .i32) (a : Vec F S256x2048 .bf16) (b : Vec F S1920x256 .bf16) :
    blockValue x0 a b = mixBlock (hotRows x0) (scaledLogits x0 a b) := rfl

end

/-- Row `v` of logit block `d`, counted among the 1920 rows. -/
def rowOf (d : ℕ) (v : Fin 128) : Fin 1920 := Fin.ofNat 1920 (128 * d + v.val)

/-- A row below the last is counted without wrapping round. -/
theorem rowOf_eq (d : ℕ) (v : Fin 128) (h : 128 * d + v.val < 1920) : rowOf d v = ⟨128 * d + v.val, h⟩ :=
  Fin.ext (Nat.mod_eq_of_lt h)

/-- The logits at row `q` and column `j`. -/
theorem stackLogits_at (s : FVec Ideal S2048x4096 .bf16) (a : Vec Ideal S256x2048 .bf16) (b : Vec Ideal S1920x256 .bf16)
    (q : Fin 1920) (j : Fin 4096) :
    stackLogits s a b (ix2 q j)
      = ∑ k : Fin 256, b (ix2 q k) * max (∑ r : Fin 2048, a (ix2 k r) * s (ix2 r j)) (0 : EReal) := by
  pointwise [stackLogits]

/-- The block's result at column `j`. -/
theorem mixBlock_at (hot : Fin 16 → FVec Ideal S128x4096 .bf16) (y : FVec Ideal S1920x4096 .f32) (j : Fin 4096) :
    mixBlock hot y (ix1 j)
      = kernelValue (fun d v => y (ix2 (rowOf d v) j)) (fun d v => hot (Fin.ofNat 16 d) (ix2 v j)) := by
  pointwise [mixBlock, firstSum, k0_pay1, k0_pay34, k0_pay35, k0_pay36, k0_pay37, k0_pay38, k0_pay39, k0_pay40,
    k0_pay41, k0_pay42, k0_pay43, k0_pay44]
  simp only [kernelValue, Finset.sum_range_succ, Finset.prod_range_succ, Finset.sum_range_zero, Finset.prod_range_zero,
    zero_add, one_mul]
  simp (disch := omega) only [rowOf_eq, Nat.reduceMul, Nat.mul_zero, Nat.mul_one, zero_add]
  rw [named_log2e, named_ln2, named_logV]
  rfl

end Cert.KernelIdeal.Made

end
-- ==== Proof.Made.Model.lean ====
/-
The network in plain words: hidden units and logits of one row of the batch, over the extended reals, and how
the kernel's rearranged arrays give the same numbers.
-/
module

public import proofs.«01_k».proof.Proof.Made.Equation

@[expose] public section

noncomputable section

open Idealize.ShloMosaic

namespace Cert.Made

/-- The place of row `r` in its block of 128. -/
def place (r : ℕ) : Fin 128 := Fin.ofNat 128 r

/-- Entry `r` of the one-hot encoding of a row's classes. -/
def hot (k : ℕ → Fin 128) (r : ℕ) : EReal := pick (k (r / 128)) (place r)

/-- Hidden unit `u`: the masked sum over the one-hot entries of the first fifteen classes, the bias, the
    rectifier. -/
def hidden (W : Fin 1920 → Fin 256 → EReal) (b : Fin 256 → EReal) (k : ℕ → Fin 128) (u : Fin 256) : EReal :=
  max ((∑ r : Fin 1920, hot k r * (W r u * if r.val / 128 ≤ u.val % 15 then 1 else 0)) + b u) 0

/-- Logit `r` of the masked output layer over the hidden units `h`. -/
def logit (W : Fin 256 → Fin 2048 → EReal) (h : Fin 256 → EReal) (r : Fin 2048) : EReal :=
  ∑ u : Fin 256, h u * (W u r * if u.val % 15 + 1 ≤ r.val / 128 then 1 else 0)

/-- Row `v` of block `d` among the 2048 logits. -/
def logitRow (d : ℕ) (v : Fin 128) : Fin 2048 := Fin.ofNat 2048 (128 * d + v.val)

/-- A row of one of the sixteen blocks is counted without wrapping round. -/
theorem logitRow_val (d : ℕ) (v : Fin 128) (h : d < 16) : (logitRow d v).val = 128 * d + v.val :=
  Nat.mod_eq_of_lt (by omega)

/-- The kernel's hidden unit: its weight array carries the bias on 128 further rows, of which the last
    class's one-hot rows pick exactly one. -/
theorem hidden_stacked (W : Fin 1920 → Fin 256 → EReal) (b : Fin 256 → EReal) (k : ℕ → Fin 128) (u : Fin 256) :
    max (∑ r : Fin 2048, (if h : r.val < 1920 then (if r.val / 128 ≤ u.val % 15 then W ⟨r, h⟩ u else 0) else b u)
      * hot k r) (0 : EReal) = hidden W b k u := by
  unfold hidden
  congr 1
  rw [show (∑ r : Fin 2048, (if h : r.val < 1920 then (if r.val / 128 ≤ u.val % 15 then W ⟨r, h⟩ u else 0) else b u)
      * hot k r) = _ from Fin.sum_univ_add (a := 1920) (b := 128) fun r : Fin (1920 + 128) =>
        (if h : r.val < 1920 then (if r.val / 128 ≤ u.val % 15 then W ⟨r, h⟩ u else 0) else b u) * hot k r]
  congr 1
  · refine Finset.sum_congr rfl fun r _ => ?_
    simp only [Fin.val_castAdd, r.isLt, dite_true]
    split
    · rw [mul_one, mul_comm]
    · rw [mul_zero, mul_zero, zero_mul]
  · have e : ∀ v : Fin 128, hot k (1920 + v.val) = pick (k 15) v := fun v => by
      unfold hot
      rw [show (1920 + v.val) / 128 = 15 by omega]
      congr 1
      exact Fin.ext (by show (1920 + v.val) % 128 = v.val; omega)
    simp only [Fin.val_natAdd, Nat.not_lt.mpr (Nat.le_add_right 1920 _), dite_false, e]
    exact sum_mul_pick (fun _ => b u) (k 15)

/-- The kernel's logit row `q` is logit `q + 128` in base two. -/
theorem logit_scaled (W : Fin 256 → Fin 2048 → EReal) (h : Fin 256 → EReal) (d : ℕ) (v : Fin 128) (hd : d < 15)
    (q : Fin 1920) (hq : q.val = 128 * d + v.val) :
    ∑ u : Fin 256, (if u.val % 15 + 1 ≤ (128 + q.val) / 128 then W u ⟨128 + q.val, by omega⟩ * invLn2 else 0) * h u
      = logit W h (logitRow (d + 1) v) * invLn2 := by
  have hr : logitRow (d + 1) v = ⟨128 + q.val, by omega⟩ := Fin.ext (by rw [logitRow_val _ _ (by omega)]; dsimp only; omega)
  unfold logit
  rw [sum_mul_coe _ _ (inv_nonneg.mpr (Real.log_nonneg one_le_two)), hr]
  refine Finset.sum_congr rfl fun u _ => ?_
  dsimp only
  split
  · rw [mul_one, mul_comm, mul_assoc]
  · simp only [mul_zero, zero_mul]

/-- No hidden unit feeds the first block of logits. -/
theorem logit_first (W : Fin 256 → Fin 2048 → EReal) (h : Fin 256 → EReal) (v : Fin 128) :
    logit W h (logitRow 0 v) = 0 := by
  unfold logit
  refine Finset.sum_eq_zero fun u _ => ?_
  rw [if_neg (by rw [logitRow_val _ _ (by decide)]; omega), mul_zero, mul_zero]

/-- A hidden unit is never negative, and is below `⊤` when its weights and its bias are. -/
theorem hidden_bounds (W : Fin 1920 → Fin 256 → EReal) (b : Fin 256 → EReal) (k : ℕ → Fin 128) (u : Fin 256)
    (hW : ∀ r u, W r u ≠ ⊤) (hb : ∀ u, b u ≠ ⊤) : 0 ≤ hidden W b k u ∧ hidden W b k u ≠ ⊤ := by
  refine ⟨le_max_right _ _, ?_⟩
  have hs : (∑ r : Fin 1920, hot k r * (W r u * if r.val / 128 ≤ u.val % 15 then 1 else 0)) ≠ ⊤ := by
    refine sum_ne_top _ _ fun r _ => ?_
    unfold hot pick
    split <;> split <;> simp [hW]
  exact (max_lt (EReal.add_lt_top hs (hb u)) EReal.zero_lt_top).ne

/-- A logit is never `⊥` when no weight is. -/
theorem logit_ne_bot (W : Fin 256 → Fin 2048 → EReal) (h : Fin 256 → EReal) (r : Fin 2048)
    (hW : ∀ u r, W u r ≠ ⊥) (h0 : ∀ u, 0 ≤ h u ∧ h u ≠ ⊤) : logit W h r ≠ ⊥ := by
  unfold logit
  refine sum_ne_bot _ _ fun u _ => ?_
  split
  · rw [mul_one]
    lift h u to ℝ using ⟨(h0 u).2, fun e => by simpa [e] using (h0 u).1⟩ with a ha
    have ha0 : 0 ≤ a := by have := (h0 u).1; rw [← ha] at this; exact_mod_cast this
    rcases eq_or_lt_of_le ha0 with rfl | hp
    · simp
    · induction hw : W u r with
      | bot => exact absurd hw (hW u r)
      | coe w => rw [← EReal.coe_mul]; exact EReal.coe_ne_bot _
      | top => rw [EReal.coe_mul_top_of_pos hp]; exact top_ne_bot
  · simp

end Cert.Made

end
-- ==== Proof.Made.Kernel.lean ====
/-
What the kernel's result array holds, at a row of the batch: the kernel's value over that row's logits and classes.
-/
module

public import proofs.«01_k».proof.Proof.Made.Array
public import proofs.«01_k».proof.Proof.Made.Block
public import proofs.«01_k».proof.Proof.Made.Model

@[expose] public section

set_option maxRecDepth 16384

noncomputable section

open Idealize.ShloMosaic Idealize.ShloMosaic.TcCoe Idealize.SL.Sem

namespace Cert.KernelIdeal.Made

open Cert.KernelIdeal Cert.KernelIdeal.Gen Cert.Made

/-- The kernel's value reads only the first fifteen blocks of logits and the first sixteen indicators. -/
theorem kernelValue_congr (z z' o o' : ℕ → Fin 128 → EReal) (hz : ∀ d < 15, z d = z' d) (ho : ∀ d < 16, o d = o' d) :
    kernelValue z o = kernelValue z' o' := by
  have h1 : ∀ v, ∑ d ∈ Finset.range 15, z d v * o (d + 1) v = ∑ d ∈ Finset.range 15, z' d v * o' (d + 1) v := fun v =>
    Finset.sum_congr rfl fun d hd => by
      have := Finset.mem_range.mp hd
      rw [hz d this, ho (d + 1) (by omega)]
  have h2 : ∏ d ∈ Finset.range 15, ∑ v, Ideal.exp2 (z d v) = ∏ d ∈ Finset.range 15, ∑ v, Ideal.exp2 (z' d v) :=
    Finset.prod_congr rfl fun d hd => by rw [hz d (Finset.mem_range.mp hd)]
  unfold kernelValue
  rw [h2]
  simp only [h1]

/-- The block's value at column `j`, from what the arrays hold: `k` the classes of that column, `W`, `b` and `U`
    the weights, the biases and the second weights. -/
theorem blockValue_at (x0 : Vec Ideal S16x4096 .i32) (x1 : Vec Ideal S256x1920 .f32) (x2 : Vec Ideal S256x1 .f32)
    (x3 : Vec Ideal S2048x256 .f32) (j : Fin 4096) (k : ℕ → Fin 128) (W : Fin 1920 → Fin 256 → EReal)
    (b : Fin 256 → EReal) (U : Fin 256 → Fin 2048 → EReal)
    (hk : ∀ d : Fin 16, x0 (ix2 d j) = BitVec.ofNat 32 (k d).val) (h1 : ∀ u r, x1 (ix2 u r) = W r u)
    (h2 : ∀ u z, x2 (ix2 u z) = b u) (h3 : ∀ r u, x3 (ix2 r u) = U u r) :
    blockValue x0 (hiddenWeights x1 x2) (logitWeights x3) (ix1 j)
      = kernelValue (fun d v => logit U (Cert.Made.hidden W b k) (logitRow (d + 1) v) * invLn2) (fun d => pick (k d)) := by
  rw [blockValue_eq, mixBlock_at]
  refine kernelValue_congr _ _ _ _ (fun d hd => funext fun v => ?_) fun d hd => funext fun v => ?_
  · rw [scaledLogits_eq, stackLogits_at, rowOf_eq d v (by omega), ← logit_scaled U _ d v hd ⟨128 * d + v.val, by omega⟩ rfl]
    refine Finset.sum_congr rfl fun u _ => ?_
    rw [logitWeights_at, h3]
    refine congrArg₂ (· * ·) rfl ?_
    rw [← hidden_stacked]
    refine congrArg (fun s : EReal => max s 0) (Finset.sum_congr rfl fun r _ => ?_)
    rw [hiddenWeights_at, hotStack_at, hotRows_at x0 _ _ j (k (r.val / 128)) (hk ⟨r.val / 128, by omega⟩), h2]
    simp only [h1]
    rfl
  · rw [hotRows_at x0 _ v j (k d)]
    rw [hk, show (Fin.ofNat 16 d).val = d from Nat.mod_eq_of_lt hd]

variable (m : (ℓ : Loc nD τ sig) → Buf (Elt Ideal) ℓ)

/-- The kernel's result at row `b`, `k` being the classes of that row. -/
theorem kernel_at (c : Dev nD) (b : Fin 16384) (k : ℕ → Fin 128)
    (hk : ∀ d : Fin 16, m ((c : Thread nD τ).loc main_arg0) (ix2 b d) = BitVec.ofNat 32 (k d).val) :
    Cert.KernelIdeal.Value.G4 m c (ix1 b)
      = kernelValue (fun d v => logit (fun u r => m ((c : Thread nD τ).loc main_arg3) (ix2 u r))
            (Cert.Made.hidden (fun r u => m ((c : Thread nD τ).loc main_arg1) (ix2 r u))
              (fun u => m ((c : Thread nD τ).loc main_arg2) (ix1 u)) k) (logitRow (d + 1) v) * invLn2)
          (fun d => pick (k d)) := by
  have hN : cfg0.N = 4 := N_0
  have hb := b.isLt
  obtain ⟨t, j, e⟩ : ∃ (t : Fin cfg0.N) (j : Fin 4096), b.val = t.val * 4096 + j.val :=
    ⟨⟨b.val / 4096, by omega⟩, ⟨b.val % 4096, by omega⟩, by dsimp only; omega⟩
  rw [result_at m c t j (ix1 b) e]
  exact blockValue_at _ _ _ _ j k _ _ _ (fun d => (classes_at m c t d j b e).trans (hk d))
    (fun u r => weights1_at m c t0_0 u r) (fun u z => bias1_at m c t0_0 u z) (fun r u => weights2_at m c t0_0 r u)

end Cert.KernelIdeal.Made

end
-- ==== Proof.Made.Scatter.lean ====
/-
The reference's segment sums: the accumulating scatter adds the 2048 columns of a row into 16 places, column
`r` going to place `r / 128`, so place `d` ends holding the sum of block `d`.
-/
module

public import proofs.«01_k».proof.Proof.Gen.ReferenceIdeal.Run
public import proofs.«01_k».proof.Proof.Made.Model
public import Idealize.ShloMosaic.Lib.Pointwise
public import Idealize.ShloMosaic.Lib.IdealHost
public import Idealize.ShloMosaic.Lib.Routing.OpsPair

@[expose] public section

set_option maxRecDepth 16384

noncomputable section

open Idealize.ShloMosaic Idealize.ShloMosaic.TcCoe Idealize.SL.Sem

namespace Cert.ReferenceIdeal.Made

open Cert.ReferenceIdeal Cert.ReferenceIdeal.Gen Cert.ReferenceIdeal.Value Cert.Made

/-- The reference's scatter: operand 16384 × 16, one index per column of the updates. -/
abbrev segments := scatter_S16384x16_S2048x1_S16384x2048_0_1_1_1

/-- An update in column `r` of row `a` lands at row `a`, in the place its index names. -/
theorem lands (idx : IVec S2048x1 32) (a : Fin 16384) (r : Fin 2048) (b : Fin 16384) (d : Fin 16) :
    segments.resultIdx? (ix2 a r) idx = some (ix2 b d) ↔ a = b ∧ (idx (ix2 r 0)).toInt = (d.val : ℤ) := by
  have s0 : segments.start (ix2 a r) idx 0 = 0 := rfl
  have w0 : segments.window (ix2 a r) 0 = a.val := rfl
  have w1 : segments.window (ix2 a r) 1 = 0 := rfl
  have s1 : segments.start (ix2 a r) idx 1 = (idx (ix2 r 0)).toInt := by
    have e : segments.siIdx (ix2 a r) ⟨0, by decide⟩ = ix2 r 0 := by
      funext x
      apply Fin.ext
      match x with
      | ⟨0, _⟩ => rfl
      | ⟨1, _⟩ => rfl
    rw [← e]
    rfl
  rw [Routing.resultIdx?_eq_some]
  refine (Fin.forall_fin_two (p := fun x => segments.start (ix2 a r) idx x + (segments.window (ix2 a r) x : ℤ)
    = ((ix2 b d x).val : ℤ))).trans ?_
  rw [s0, w0, s1, w1, Fin.ext_iff]
  show 0 + (a.val : ℤ) = (b.val : ℤ) ∧ (idx (ix2 r 0)).toInt + ((0 : ℕ) : ℤ) = (d.val : ℤ) ↔ _
  omega

/-- The scatter of updates whose column `r` is sent to place `r / 128`: at `(b, d)` the sum over block `d`. -/
theorem segment_sum (idx : IVec S2048x1 32) (hidx : ∀ r : Fin 2048, idx (ix2 r 0) = BitVec.ofNat 32 (r.val / 128))
    (x : FVec Ideal S16384x16 .f32) (u : FVec Ideal S16384x2048 .f32) (b : Fin 16384) (d : Fin 16)
    (hx : x (ix2 b d) = (0 : EReal)) :
    Host.scatterAdd segments x idx u (ix2 b d) = ∑ v : Fin 128, u (ix2 b (logitRow d v)) := by
  have hsmall : ∀ n : Fin 16, (BitVec.ofNat 32 n.val).toInt = (n.val : ℤ) := by decide +kernel
  show (x (ix2 b d) : EReal) + ∑ j ∈ Finset.univ.filter (fun j => segments.resultIdx? j idx = some (ix2 b d)), u j = _
  rw [hx, zero_add, Finset.sum_filter, sum_idx2]
  simp only [lands]
  rw [Finset.sum_eq_single b (fun a _ hab => Finset.sum_eq_zero fun r _ => if_neg fun h => hab h.1)
    (fun h => absurd (Finset.mem_univ b) h)]
  have hr : ∀ r : Fin 2048, (b = b ∧ (idx (ix2 r 0)).toInt = (d.val : ℤ)) ↔ r.val / 128 = d.val := fun r => by
    rw [hidx, hsmall ⟨r.val / 128, by omega⟩]
    dsimp only
    omega
  rw [Finset.sum_congr rfl fun r _ => if_congr (hr r) rfl rfl]
  rw [← Finset.sum_filter]
  refine Finset.sum_bij' (fun r _ => place r) (fun v _ => logitRow d v) (fun _ _ => Finset.mem_univ _)
    (fun v _ => ?_) (fun r hr => ?_) (fun v _ => ?_) (fun r hr => ?_)
  · rw [Finset.mem_filter, logitRow_val _ _ d.isLt]
    exact ⟨Finset.mem_univ _, by omega⟩
  · have h := (Finset.mem_filter.mp hr).2
    apply Fin.ext
    rw [logitRow_val _ _ d.isLt]
    show 128 * d.val + r.val % 128 = r.val
    omega
  · apply Fin.ext
    show (logitRow d v).val % 128 = v.val
    rw [logitRow_val _ _ d.isLt]
    omega
  · have h := (Finset.mem_filter.mp hr).2
    congr 2
    apply Fin.ext
    rw [logitRow_val _ _ d.isLt]
    show r.val = 128 * d.val + r.val % 128
    omega

end Cert.ReferenceIdeal.Made

end
-- ==== Proof.Made.Reference.lean ====
/-
What the reference computes, at a row of the batch: the logarithm of the product, over the sixteen classes, of
the picked exponential over the block's sum of exponentials.
-/
module

public import proofs.«01_k».proof.Proof.Made.Scatter
public import Idealize.ShloMosaic.Lib.Tactic.CleanTypes

@[expose] public section

set_option maxRecDepth 16384

noncomputable section

open Idealize.ShloMosaic Idealize.ShloMosaic.TcCoe Idealize.SL.Sem

namespace Cert.ReferenceIdeal.Made

open Cert.ReferenceIdeal Cert.ReferenceIdeal.Gen Cert.ReferenceIdeal.Value Cert.Made

section
variable {F : FTy → Type} [FloatOps F]

/-- Column `d` of the sixteen ratios. -/
def column (q : FVec F S16384x16 .f32) (d : ℕ) (h : S16384x16.Slices ![0, d] S16384x1) : FVec F S16384 .f32 :=
  shapeCast S16384 (extractStridedSlice S16384x1 ![0, d] q h) shapeCasts_S16384x1_S16384

/-- The logarithm of the product of the sixteen columns. -/
def logProduct (q : FVec F S16384x16 .f32) : FVec F S16384 .f32 :=
  Host.log (mulf (mulf (mulf (mulf (mulf (mulf (mulf (mulf (mulf (mulf (mulf (mulf (mulf (mulf (mulf (column q 0 slices_S16384x16_S16384x1_0_0)
    (column q 1 slices_S16384x16_S16384x1_0_1))
    (column q 2 slices_S16384x16_S16384x1_0_2))
    (column q 3 slices_S16384x16_S16384x1_0_3))
    (column q 4 slices_S16384x16_S16384x1_0_4))
    (column q 5 slices_S16384x16_S16384x1_0_5))
    (column q 6 slices_S16384x16_S16384x1_0_6))
    (column q 7 slices_S16384x16_S16384x1_0_7))
    (column q 8 slices_S16384x16_S16384x1_0_8))
    (column q 9 slices_S16384x16_S16384x1_0_9))
    (column q 10 slices_S16384x16_S16384x1_0_10))
    (column q 11 slices_S16384x16_S16384x1_0_11))
    (column q 12 slices_S16384x16_S16384x1_0_12))
    (column q 13 slices_S16384x16_S16384x1_0_13))
    (column q 14 slices_S16384x16_S16384x1_0_14))
    (column q 15 slices_S16384x16_S16384x1_0_15))

end

/-- At row `b` it is the logarithm of the product of that row's sixteen entries. -/
theorem logProduct_at (q : FVec Ideal S16384x16 .f32) (b : Fin 16384) :
    logProduct q (ix1 b) = Ideal.log (∏ d ∈ Finset.range 16, (q (ix2 b (Fin.ofNat 16 d)) : EReal)) := by
  simp only [Finset.prod_range_succ, Finset.prod_range_zero, one_mul]
  pointwise [logProduct, column]
  rfl

/-- A remainder by 15, and one more, over words, as the reference spells it. -/
theorem degree_word : ∀ n : Fin 256,
    IntOp.addi
      (Scalar.select
        (IntOp.andi
          (IntOp.cmpi CmpIPredicate.ne
            (IntOp.cmpi CmpIPredicate.slt
              (IntOp.remsi ArithUnit.host (BitVec.ofNat 32 n)
                (Scalar.select (IntOp.cmpi CmpIPredicate.eq 15#32 0#32) (1#32) 15#32)) 0#32)
            (IntOp.cmpi CmpIPredicate.slt
              (Scalar.select (IntOp.cmpi CmpIPredicate.eq 15#32 0#32) (1#32) 15#32) 0#32))
          (IntOp.cmpi CmpIPredicate.ne
            (IntOp.remsi ArithUnit.host (BitVec.ofNat 32 n)
              (Scalar.select (IntOp.cmpi CmpIPredicate.eq 15#32 0#32) (1#32) 15#32)) 0#32))
        (IntOp.addi
          (IntOp.remsi ArithUnit.host (BitVec.ofNat 32 n)
            (Scalar.select (IntOp.cmpi CmpIPredicate.eq 15#32 0#32) (1#32) 15#32))
          (Scalar.select (IntOp.cmpi CmpIPredicate.eq 15#32 0#32) (1#32) 15#32))
        (IntOp.remsi ArithUnit.host (BitVec.ofNat 32 n)
          (Scalar.select (IntOp.cmpi CmpIPredicate.eq 15#32 0#32) (1#32) 15#32)))
      1#32 = BitVec.ofNat 32 (n % 15 + 1) := by
  decide +kernel

/-- The degree of hidden unit `u`. -/
theorem degree_at (V0 : Valuation τ sig (Elt Ideal)) (u : Fin 256) :
    (res_main_v8 V0 : IVec S256 32) (ix1 u) = BitVec.ofNat 32 (u.val % 15 + 1) := by
  rw [← degree_word u]
  unfold res_main_v8 res_main_call0_v4 res_main_call0_v2 res_main_call0_v0
  clean_types
  pointwise
  rfl

/-- The block number of logit `r`. -/
theorem block_at (V0 : Valuation τ sig (Elt Ideal)) (r : Fin 2048) :
    (res_main_v26 V0 : IVec S2048 32) (ix1 r) = BitVec.ofNat 32 (r.val / 128) := by
  unfold res_main_v26
  clean_types
  pointwise

/-- A comparison of two small words, read as a float, is one or zero by the numbers. -/
theorem mask_entry (a b : ℕ) (ha : a < 17) (hb : b < 17) :
    (FloatOps.uitofp FTy.f32 (IntOp.cmpi CmpIPredicate.sle (BitVec.ofNat 32 a) (BitVec.ofNat 32 b)) : Ideal .f32)
      = if a ≤ b then (1 : EReal) else 0 := by
  have h : ∀ a b : Fin 17, IntOp.cmpi CmpIPredicate.sle (BitVec.ofNat 32 a) (BitVec.ofNat 32 b)
      = if a.val ≤ b.val then 1#1 else 0#1 := by decide +kernel
  rw [h ⟨a, ha⟩ ⟨b, hb⟩]
  dsimp only
  split
  · show (((1#1 : BitVec 1).toNat : ℝ) : EReal) = 1
    simp
  · show (((0#1 : BitVec 1).toNat : ℝ) : EReal) = 0
    simp

/-- An equality test of two classes, read as a float, is the indicator. -/
theorem hot_word (k v : Fin 128) :
    (FloatOps.uitofp FTy.f32 (IntOp.cmpi CmpIPredicate.eq (BitVec.ofNat 32 k.val) (BitVec.ofNat 32 v.val)) : Ideal .f32)
      = pick k v := by
  have h : ∀ k v : Fin 128, IntOp.cmpi CmpIPredicate.eq (BitVec.ofNat 32 k.val) (BitVec.ofNat 32 v.val)
      = if v = k then 1#1 else 0#1 := by decide +kernel
  rw [h]
  unfold pick
  split
  · show (((1#1 : BitVec 1).toNat : ℝ) : EReal) = 1
    simp
  · show (((0#1 : BitVec 1).toNat : ℝ) : EReal) = 0
    simp

/-- The first weights, the hidden biases, the second weights and the output biases of a launch. -/
abbrev w1 (V0 : Valuation τ sig (Elt Ideal)) (r : Fin 1920) (u : Fin 256) : EReal := V0 (Proc.devRef .tc main_arg1) (ix2 r u)
abbrev b1 (V0 : Valuation τ sig (Elt Ideal)) (u : Fin 256) : EReal := V0 (Proc.devRef .tc main_arg2) (ix1 u)
abbrev w2 (V0 : Valuation τ sig (Elt Ideal)) (u : Fin 256) (r : Fin 2048) : EReal := V0 (Proc.devRef .tc main_arg3) (ix2 u r)

section
variable (V0 : Valuation τ sig (Elt Ideal)) (b : Fin 16384) (k : ℕ → Fin 128)
  (hk : ∀ d : Fin 16, V0 (Proc.devRef .tc main_arg0) (ix2 b d) = BitVec.ofNat 32 (k d).val)
include hk

/-- The one-hot encoding at row `b`, entry `r`. -/
theorem hot_at (r : Fin 2048) : (res_main_v28 V0 : FVec Ideal S16384x2048 .f32) (ix2 b r) = hot k r := by
  have e : (res_main_v28 V0 : FVec Ideal S16384x2048 .f32) (ix2 b r)
      = (FloatOps.uitofp FTy.f32 (IntOp.cmpi CmpIPredicate.eq
          (V0 (Proc.devRef .tc main_arg0) (ix2 b ⟨r.val / 128, by omega⟩)) (BitVec.ofNat 32 (r.val % 128))) : Ideal .f32) := by
    unfold res_main_v28
    clean_types
    pointwise
  rw [e, hk]
  exact hot_word (k (r.val / 128)) (place r)

/-- The exponential of the logit at row `b`, entry `r`, the output biases being zero. -/
theorem exp_at (h4 : ∀ r : Fin 2048, V0 (Proc.devRef .tc main_arg4) (ix1 r) = (0 : EReal)) (r : Fin 2048) :
    (res_main_v41 V0 : FVec Ideal S16384x2048 .f32) (ix2 b r)
      = Ideal.exp (logit (w2 V0) (hidden (w1 V0) (b1 V0) k) r) := by
  have ha : ∀ n : ℕ, IntOp.addi 1#32 (BitVec.ofNat 32 n) = BitVec.ofNat 32 (1 + n) := fun n => by
    show BitVec.ofNat 32 1 + BitVec.ofNat 32 n = _
    rw [← BitVec.ofNat_add]
  unfold res_main_v41
  clean_types
  pointwise
  simp only [h4, add_zero, hot_at V0 b k hk, degree_at, ha]
  unfold logit Cert.Made.hidden
  congr 1
  refine Finset.sum_congr rfl fun u _ => ?_
  rw [mask_entry _ _ (by omega) (by omega)]
  congr 3
  refine Finset.sum_congr rfl fun x _ => ?_
  rw [mask_entry _ _ (by omega) (by omega)]
  congr 2
  exact if_congr (by omega) rfl rfl

/-- The ratio of class `d` at row `b`. -/
theorem ratio_at (h4 : ∀ r : Fin 2048, V0 (Proc.devRef .tc main_arg4) (ix1 r) = (0 : EReal)) (d : Fin 16) :
    (res_main_v59 V0 : FVec Ideal S16384x16 .f32) (ix2 b d)
      = Ideal.div
          (∑ v : Fin 128, Ideal.exp (logit (w2 V0) (hidden (w1 V0) (b1 V0) k) (logitRow d v)) * pick (k d) v)
          (∑ v : Fin 128, Ideal.exp (logit (w2 V0) (hidden (w1 V0) (b1 V0) k) (logitRow d v))) := by
  have hz : ∀ n : Fin 16, Scalar.select (IntOp.cmpi CmpIPredicate.slt (BitVec.ofNat 32 n.val) 0#32)
      (IntOp.addi (BitVec.ofNat 32 n.val) 16#32) (BitVec.ofNat 32 n.val) = BitVec.ofNat 32 n.val := by decide +kernel
  have hh : ∀ v : Fin 128, hot k (logitRow d v) = pick (k d) v := fun v => by
    unfold hot
    have hv := logitRow_val d v d.isLt
    rw [show (logitRow d v).val / 128 = d.val by omega]
    congr 1
    exact Fin.ext (by show (logitRow d v).val % 128 = v.val; omega)
  unfold res_main_v59
  clean_types
  pointwise
  rw [segment_sum _ (fun r => ?_), segment_sum _ (fun r => ?_)]
  · congr 1
    · refine Finset.sum_congr rfl fun v _ => ?_
      pointwise
      rw [exp_at V0 b k hk h4, hot_at V0 b k hk, hh]
    · exact Finset.sum_congr rfl fun v _ => exp_at V0 b k hk h4 _
  · pointwise
  · pointwise
    rw [block_at]
    exact hz ⟨r.val / 128, by omega⟩
  · pointwise
  · pointwise
    rw [block_at]
    exact hz ⟨r.val / 128, by omega⟩

/-- The reference's result at row `b`. -/
theorem reference_at (h4 : ∀ r : Fin 2048, V0 (Proc.devRef .tc main_arg4) (ix1 r) = (0 : EReal)) :
    logProduct (res_main_v59 V0) (ix1 b)
      = referenceValue (fun d v => logit (w2 V0) (hidden (w1 V0) (b1 V0) k) (logitRow d v)) (fun d => pick (k d)) := by
  rw [logProduct_at]
  unfold referenceValue
  refine congrArg Ideal.log (Finset.prod_congr rfl fun d hd => ?_)
  have hd' : (Fin.ofNat 16 d).val = d := Nat.mod_eq_of_lt (Finset.mem_range.mp hd)
  rw [ratio_at V0 b k hk h4, hd']

end

end Cert.ReferenceIdeal.Made

end
-- ==== Proof.Made.Pre.lean ====
/-
What the precondition says of the argument arrays, element by element.
-/
module

public import proofs.«01_k».proof.Proof.Gen.Pre_made_inputs
public import Idealize.ShloMosaic.Lib.ReduceAll
public import Idealize.ShloMosaic.Lib.Affine
public import Idealize.ShloMosaic.Lib.WordCmp
public import Idealize.ShloMosaic.Lib.Pointwise
public import Idealize.ShloMosaic.Lib.IdealHost

@[expose] public section

set_option maxRecDepth 16384

noncomputable section

open Idealize.ShloMosaic

namespace Cert.Pre_made_inputs.Made

open Cert.Pre_made_inputs Cert.Pre_made_inputs.Gen

instance : Subsingleton S_.Idx := ⟨fun a b => funext fun i => i.elim0⟩

/-- A word between 0 and 127 is the word of a class. -/
theorem class_of_word (w : BitVec 32) (h0 : (0 : ℤ) ≤ w.toInt) (h1 : w.toInt < 128) :
    w = BitVec.ofNat 32 (Fin.ofNat 128 w.toNat).val := by
  have hn : w.toNat < 128 := by
    rw [BitVec.toInt_eq_toNat_cond] at h0 h1
    split at h0 <;> omega
  refine BitVec.eq_of_toNat_eq ?_
  rw [BitVec.toNat_ofNat]
  show w.toNat = w.toNat % 128 % 2 ^ 32
  omega

/-- The word of zeros denotes zero. -/
theorem zero_word : Ideal.ofBits .f32 0x00000000#32 = 0 := by simp [Ideal.ofBits, Ideal.ieee]

/-- An element that compares below anything is below `⊤`. -/
theorem below_top (p q : EReal) (h : Ideal.cmp .olt p q = 1#1) : p ≠ ⊤ := by
  simp only [Ideal.cmp, WordCmp.ofBool_eq_one_iff, decide_eq_true_eq] at h
  exact h.ne_top

/-- An element that compares above anything is above `⊥`. -/
theorem above_bot (p q : EReal) (h : Ideal.cmp .ogt p q = 1#1) : p ≠ ⊥ := by
  simp only [Ideal.cmp, WordCmp.ofBool_eq_one_iff, decide_eq_true_eq] at h
  exact h.ne_bot

/-- An element that compares equal to another is equal to it. -/
theorem equal_of (p q : EReal) (h : Ideal.cmp .oeq p q = 1#1) : p = q := by
  simpa only [Ideal.cmp, WordCmp.ofBool_eq_one_iff, decide_eq_true_eq] using h

variable {x : IVec S16384x16 32} {W : FVec Ideal S1920x256 .f32} {b : FVec Ideal S256 .f32}
  {U : FVec Ideal S256x2048 .f32} {y : FVec Ideal S2048 .f32}

/-- Under the precondition the classes lie between 0 and 127, the first weights and biases are below `⊤`, the second
    weights are above `⊥`, and the output biases are zero. -/
theorem made_inputs (h : ∀ j, fn (F := Ideal) x W b U y j = 1#1) :
    (∀ i, x i = BitVec.ofNat 32 (Fin.ofNat 128 (x i).toNat).val) ∧ (∀ i, (W i : EReal) ≠ ⊤) ∧ (∀ i, (b i : EReal) ≠ ⊤)
      ∧ (∀ i, (U i : EReal) ≠ ⊥) ∧ ∀ i, (y i : EReal) = 0 := by
  have h := h ix0
  dsimp only [fn, fn_part1] at h
  obtain ⟨h, h5⟩ := IntOp.andi_eq_one.1 h
  obtain ⟨h1, h⟩ := IntOp.andi_eq_one.1 h
  obtain ⟨h, h4⟩ := IntOp.andi_eq_one.1 h
  obtain ⟨h2, h3⟩ := IntOp.andi_eq_one.1 h
  refine ⟨fun i => ?_, fun i => ?_, fun i => ?_, fun i => ?_, fun i => ?_⟩
  · obtain ⟨a, c⟩ := IntOp.andi_eq_one.1 (Host.reduce_andi_all _ _ _ _ _ h1 i)
    exact class_of_word _ (IntOp.cmpi_sge.1 a) (IntOp.cmpi_slt.1 c)
  · have a := Host.reduce_andi_all _ _ _ _ _ h2 i
    exact below_top _ _ a
  · have a := Host.reduce_andi_all _ _ _ _ _ h3 i
    exact below_top _ _ a
  · have a := Host.reduce_andi_all _ _ _ _ _ h4 i
    exact above_bot _ _ a
  · have a := Host.reduce_andi_all _ _ _ _ _ h5 i
    exact (equal_of _ _ a).trans zero_word

end Cert.Pre_made_inputs.Made

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_made_inputs
public import proofs.«01_k».proof.Proof.Made.Kernel
public import proofs.«01_k».proof.Proof.Made.Reference
public import proofs.«01_k».proof.Proof.Made.Pre
public import Idealize.ShloMosaic.Adequacy
public import Idealize.ShloMosaic.Init

@[expose] public section

noncomputable section

namespace Cert.Proof

open Idealize.ShloMosaic Idealize.SL.Sem Cert.Kernel

open Cert.Made

/-- Where the precondition holds, the two programs' results agree element by element: the kernel's array is the
    kernel's value of the row, the reference's is the reference's value of the row, and the two are equal because the
    first block of logits is zero and no logit is `⊥`. -/
theorem results_equal
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hp : ∀ j, Cert.Pre_made_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) j = 1#1)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Made.logProduct (Cert.ReferenceIdeal.Value.res_main_v59 (StableHlo.launchContents m' c))
      = (Cert.KernelIdeal.Value.G4 m c : FVec Ideal Cert.KernelIdeal.S16384 .f32) := by
  obtain ⟨e0, e1, e2, e3, e4⟩ := h
  obtain ⟨p0, p1, p2, p3, p4⟩ := Cert.Pre_made_inputs.Made.made_inputs hp
  funext i
  obtain ⟨b, rfl⟩ : ∃ b : Fin 16384, i = ix1 b := ⟨i 0, funext fun a => by match a with | ⟨0, _⟩ => rfl⟩
  obtain ⟨k, hk⟩ : ∃ k : ℕ → Fin 128, ∀ d : Fin 16,
      m ((c.tc : Thread Cert.KernelIdeal.nD Cert.KernelIdeal.τ).loc Cert.KernelIdeal.main_arg0) (ix2 b d)
        = BitVec.ofNat 32 (k d).val :=
    ⟨fun d => Fin.ofNat 128 (m ((c.tc : Thread Cert.KernelIdeal.nD Cert.KernelIdeal.τ).loc Cert.KernelIdeal.main_arg0) (ix2 b (Fin.ofNat 16 d))).toNat,
      fun d => by
        have hd : Fin.ofNat 16 d.val = d := Fin.ext (Nat.mod_eq_of_lt d.isLt)
        dsimp only
        rw [hd]
        exact p0 (ix2 b d)⟩
  rw [Cert.KernelIdeal.Made.kernel_at m c b k hk]
  have hr := Cert.ReferenceIdeal.Made.reference_at (StableHlo.launchContents m' c) b k
    (fun d => (congrFun e0 (ix2 b d)).trans (hk d)) (fun r => (congrFun e4 (ix1 r)).trans (p4 (ix1 r)))
  have hw1 : Cert.ReferenceIdeal.Made.w1 (StableHlo.launchContents m' c)
      = fun r u => m ((c.tc : Thread Cert.KernelIdeal.nD Cert.KernelIdeal.τ).loc Cert.KernelIdeal.main_arg1) (ix2 r u) :=
    funext fun r => funext fun u => congrFun e1 (ix2 r u)
  have hb1 : Cert.ReferenceIdeal.Made.b1 (StableHlo.launchContents m' c)
      = fun u => m ((c.tc : Thread Cert.KernelIdeal.nD Cert.KernelIdeal.τ).loc Cert.KernelIdeal.main_arg2) (ix1 u) :=
    funext fun u => congrFun e2 (ix1 u)
  have hw2 : Cert.ReferenceIdeal.Made.w2 (StableHlo.launchContents m' c)
      = fun u r => m ((c.tc : Thread Cert.KernelIdeal.nD Cert.KernelIdeal.τ).loc Cert.KernelIdeal.main_arg3) (ix2 u r) :=
    funext fun u => funext fun r => congrFun e3 (ix2 u r)
  rw [hr, hw1, hb1, hw2]
  exact (kernelValue_eq _ k (logit_first _ _) fun d v => logit_ne_bot _ _ _ (fun u r => p3 (ix2 u r))
    fun u => hidden_bounds _ _ _ _ (fun r u => p1 (ix2 r u)) fun u => p2 (ix1 u)).symm

/-- The idealized kernel and the reference end with equal results. -/
theorem algebraic : Cert.algebraic_KernelIdeal_ReferenceIdeal_pre_made_inputs := fun m g m' g' hp h =>
  ⟨fun c => Cert.KernelIdeal.Value.G4 m c, Cert.KernelIdeal.Value.run m g,
    (θ_run _ _ _).mono (fun _ hr c => ⟨(hr c).1.trans (results_equal m m' c (fun j => congrFun (hp c) j) (h c)), (hr c).2⟩)
      (Cert.ReferenceIdeal.Value.run m' g')⟩

/-- The reference ends with its arguments unchanged and, declaring no semaphore, with every counter at zero. -/
theorem reference_frame : Cert.quiescent_ReferenceIdeal := fun m ρ _ =>
  (θ_run _ _ _).mono (fun r h => ⟨fun c => (h c).2, sem_eq_zero_of_no_sems (by decide) r.2⟩)
    (Cert.ReferenceIdeal.Value.run m ρ)

/-- The three named constants stand where the kernel had their roundings. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl,
    IdealRules.named_const.statement Cert.KernelIdeal.κ "logV" .f32 0x409B43D5#32 ((Real.log 128 : ℝ) : EReal) rfl⟩

/-- Every claim of the certificate: the runs, the named constants, and the equation of the results. -/
theorem claim : Cert.Claim := ⟨Cert.Kernel.Gen.facts, Cert.KernelIdeal.Gen.facts, Cert.ReferenceIdeal.Gen.facts, Cert.Pre_made_inputs.Gen.facts,
  fun m ρ _ => Cert.Kernel.Gen.frame m ρ, fun m ρ _ => Cert.KernelIdeal.Gen.frame m ρ,
  fun m ρ _ => Cert.KernelIdeal.Gen.frame m ρ, reference_frame, fun m ρ _ => reference_frame m ρ trivial, preserves, algebraic⟩

end Cert.Proof

end
